-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_untrained_norms [hPre_untrained_norms : Cert.Pre_untrained_norms.Facts] (m : (ℓ : Loc Cert.KernelIdeal.nD Cert.KernelIdeal.τ Cert.KernelIdeal.sig) → Buf (Elt Ideal) ℓ) : Prop :=
  ∀ c : Dev Cert.KernelIdeal.nD,
    (Cert.Pre_untrained_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 = (fun _ => 1#1)
    ∧ (Cert.Pre_untrained_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.1 = (fun _ => 1#1)
    ∧ (Cert.Pre_untrained_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.1 = (fun _ => 1#1)
    ∧ (Cert.Pre_untrained_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.1 = (fun _ => 1#1)
    ∧ (Cert.Pre_untrained_norms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untrained_norms [hPre_untrained_norms : Cert.Pre_untrained_norms.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untrained_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).1 = (fun _ => 1#1)
    ∧ (Cert.Pre_untrained_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.1 = (fun _ => 1#1)
    ∧ (Cert.Pre_untrained_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.1 = (fun _ => 1#1)
    ∧ (Cert.Pre_untrained_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.1 = (fun _ => 1#1)
    ∧ (Cert.Pre_untrained_norms.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_untrained_norms [hKernelIdeal : Cert.KernelIdeal.Facts] [hPre_untrained_norms : Cert.Pre_untrained_norms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_untrained_norms m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_untrained_norms [hReferenceIdeal : Cert.ReferenceIdeal.Facts] [hPre_untrained_norms : Cert.Pre_untrained_norms.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untrained_norms m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal_pre_untrained_norms [hKernelIdeal : Cert.KernelIdeal.Facts] [hReferenceIdeal : Cert.ReferenceIdeal.Facts] [hPre_untrained_norms : Cert.Pre_untrained_norms.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_untrained_norms m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v189) = v2 c
          ∧ r.2.mem ((c.tc : Thread Cert.ReferenceIdeal.nD Cert.ReferenceIdeal.τ).loc Cert.ReferenceIdeal.main_v286) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_untrained_norms : Cert.Pre_untrained_norms.Facts),
    quiescent_Kernel (hKernel := hKernel)
    ∧ quiescent_KernelIdeal (hKernelIdeal := hKernelIdeal)
    ∧ quiescent_KernelIdeal_pre_untrained_norms (hKernelIdeal := hKernelIdeal) (hPre_untrained_norms := hPre_untrained_norms)
    ∧ quiescent_ReferenceIdeal (hReferenceIdeal := hReferenceIdeal)
    ∧ quiescent_ReferenceIdeal_pre_untrained_norms (hReferenceIdeal := hReferenceIdeal) (hPre_untrained_norms := hPre_untrained_norms)
    ∧ preserves_Kernel_KernelIdeal
    ∧ algebraic_KernelIdeal_ReferenceIdeal_pre_untrained_norms (hKernelIdeal := hKernelIdeal) (hReferenceIdeal := hReferenceIdeal) (hPre_untrained_norms := hPre_untrained_norms)
-- ==== Pre_untrained_norms.lean ====
abbrev S8x2048x512 : Shape := ⟨3, ![8, 2048, 512]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S8x2048x512 : S_.BroadcastsInDim S8x2048x512 (![] : Fin 0 → Fin S8x2048x512.rank)
  bcast_S_S512x512x3 : S_.BroadcastsInDim S512x512x3 (![] : Fin 0 → Fin S512x512x3.rank)
  bcast_S_S512 : S_.BroadcastsInDim S512 (![] : Fin 0 → Fin S512.rank)
  bcast_S_S1x512 : S_.BroadcastsInDim S1x512 (![] : Fin 0 → Fin S1x512.rank)
  bcast_S_S1 : S_.BroadcastsInDim S1 (![] : Fin 0 → Fin S1.rank)

variable [Facts]

def fn_part5 {F : FTy → Type} [FloatOps F] (main_arg10 : FVec F S1 .f32) (main_arg20 : FVec F S1 .f32) (main_arg30 : FVec F S1 .f32) (main_v2 : IVec S8x2048x512 1) (main_v25 : IVec S512x512x3 1) (main_v78 : IVec S512 1) (main_v89 : IVec S1x512 1) (main_v90 : FVec F S1 .f32) : IVec S8x2048x512 1 × IVec S512x512x3 1 × IVec S512 1 × IVec S1x512 1 × IVec S1 1 :=
  let main_v91 : IVec S1 1 := cmpf .oeq main_arg10 main_v90
  let main_cst_28 : FVec F S_ .f32 := constant S_ .f32 0x00000000#32
  let main_v92 : FVec F S1 .f32 := broadcastInDim S1 ![] bcast_S_S1 main_cst_28
  let main_v93 : IVec S1 1 := cmpf .oeq main_arg20 main_v92
  let main_v94 : IVec S1 1 := andi main_v91 main_v93
  let main_cst_29 : FVec F S_ .f32 := constant S_ .f32 0x00000000#32
  let main_v95 : FVec F S1 .f32 := broadcastInDim S1 ![] bcast_S_S1 main_cst_29
  let main_v96 : IVec S1 1 := cmpf .oeq main_arg30 main_v95
  let main_v97 : IVec S1 1 := andi main_v94 main_v96
  (main_v2, main_v25, main_v78, main_v89, main_v97)

def fn_part4 {F : FTy → Type} [FloatOps F] (main_arg9 : FVec F S1x512 .f32) (main_arg10 : FVec F S1 .f32) (main_arg19 : FVec F S1x512 .f32) (main_arg20 : FVec F S1 .f32) (main_arg27 : FVec F S512 .f32) (main_arg28 : FVec F S512 .f32) (main_arg29 : FVec F S1x512 .f32) (main_arg30 : FVec F S1 .f32) (main_v2 : IVec S8x2048x512 1) (main_v25 : IVec S512x512x3 1) (main_v72 : IVec S512 1) : IVec S8x2048x512 1 × IVec S512x512x3 1 × IVec S512 1 × IVec S1x512 1 × IVec S1 1 :=
  let main_cst_22 : FVec F S_ .f32 := constant S_ .f32 0x3F800000#32
  let main_v73 : FVec F S512 .f32 := broadcastInDim S512 ![] bcast_S_S512 main_cst_22
  let main_v74 : IVec S512 1 := cmpf .oeq main_arg27 main_v73
  let main_v75 : IVec S512 1 := andi main_v72 main_v74
  let main_cst_23 : FVec F S_ .f32 := constant S_ .f32 0x00000000#32
  let main_v76 : FVec F S512 .f32 := broadcastInDim S512 ![] bcast_S_S512 main_cst_23
  let main_v77 : IVec S512 1 := cmpf .oeq main_arg28 main_v76
  let main_v78 : IVec S512 1 := andi main_v75 main_v77
  let main_v79 : FVec F S1x512 .f32 := Host.absf main_arg9
  let main_cst_24 : FVec F S_ .f32 := constant S_ .f32 0x7F800000#32
  let main_v80 : FVec F S1x512 .f32 := broadcastInDim S1x512 ![] bcast_S_S1x512 main_cst_24
  let main_v81 : IVec S1x512 1 := cmpf .olt main_v79 main_v80
  let main_v82 : FVec F S1x512 .f32 := Host.absf main_arg19
  let main_cst_25 : FVec F S_ .f32 := constant S_ .f32 0x7F800000#32
  let main_v83 : FVec F S1x512 .f32 := broadcastInDim S1x512 ![] bcast_S_S1x512 main_cst_25
  let main_v84 : IVec S1x512 1 := cmpf .olt main_v82 main_v83
  let main_v85 : IVec S1x512 1 := andi main_v81 main_v84
  let main_v86 : FVec F S1x512 .f32 := Host.absf main_arg29
  let main_cst_26 : FVec F S_ .f32 := constant S_ .f32 0x7F800000#32
  let main_v87 : FVec F S1x512 .f32 := broadcastInDim S1x512 ![] bcast_S_S1x512 main_cst_26
  let main_v88 : IVec S1x512 1 := cmpf .olt main_v86 main_v87
  let main_v89 : IVec S1x512 1 := andi main_v85 main_v88
  let main_cst_27 : FVec F S_ .f32 := constant S_ .f32 0x00000000#32
  let main_v90 : FVec F S1 .f32 := broadcastInDim S1 ![] bcast_S_S1 main_cst_27
  fn_part5 (F := F) main_arg10 main_arg20 main_arg30 main_v2 main_v25 main_v78 main_v89 main_v90

def fn_part3 {F : FTy → Type} [FloatOps F] (main_arg9 : FVec F S1x512 .f32) (main_arg10 : FVec F S1 .f32) (main_arg17 : FVec F S512 .f32) (main_arg18 : FVec F S512 .f32) (main_arg19 : FVec F S1x512 .f32) (main_arg20 : FVec F S1 .f32) (main_arg22 : FVec F S512 .f32) (main_arg23 : FVec F S512 .f32) (main_arg24 : FVec F S512 .f32) (main_arg26 : FVec F S512 .f32) (main_arg27 : FVec F S512 .f32) (main_arg28 : FVec F S512 .f32) (main_arg29 : FVec F S1x512 .f32) (main_arg30 : FVec F S1 .f32) (main_v2 : IVec S8x2048x512 1) (main_v25 : IVec S512x512x3 1) (main_v54 : IVec S512 1) : IVec S8x2048x512 1 × IVec S512x512x3 1 × IVec S512 1 × IVec S1x512 1 × IVec S1 1 :=
  let main_cst_16 : FVec F S_ .f32 := constant S_ .f32 0x3F800000#32
  let main_v55 : FVec F S512 .f32 := broadcastInDim S512 ![] bcast_S_S512 main_cst_16
  let main_v56 : IVec S512 1 := cmpf .oeq main_arg17 main_v55
  let main_v57 : IVec S512 1 := andi main_v54 main_v56
  let main_cst_17 : FVec F S_ .f32 := constant S_ .f32 0x00000000#32
  let main_v58 : FVec F S512 .f32 := broadcastInDim S512 ![] bcast_S_S512 main_cst_17
  let main_v59 : IVec S512 1 := cmpf .oeq main_arg18 main_v58
  let main_v60 : IVec S512 1 := andi main_v57 main_v59
  let main_cst_18 : FVec F S_ .f32 := constant S_ .f32 0x00000000#32
  let main_v61 : FVec F S512 .f32 := broadcastInDim S512 ![] bcast_S_S512 main_cst_18
  let main_v62 : IVec S512 1 := cmpf .oeq main_arg22 main_v61
  let main_v63 : IVec S512 1 := andi main_v60 main_v62
  let main_cst_19 : FVec F S_ .f32 := constant S_ .f32 0x3F800000#32
  let main_v64 : FVec F S512 .f32 := broadcastInDim S512 ![] bcast_S_S512 main_cst_19
  let main_v65 : IVec S512 1 := cmpf .oeq main_arg23 main_v64
  let main_v66 : IVec S512 1 := andi main_v63 main_v65
  let main_cst_20 : FVec F S_ .f32 := constant S_ .f32 0x00000000#32
  let main_v67 : FVec F S512 .f32 := broadcastInDim S512 ![] bcast_S_S512 main_cst_20
  let main_v68 : IVec S512 1 := cmpf .oeq main_arg24 main_v67
  let main_v69 : IVec S512 1 := andi main_v66 main_v68
  let main_cst_21 : FVec F S_ .f32 := constant S_ .f32 0x00000000#32
  let main_v70 : FVec F S512 .f32 := broadcastInDim S512 ![] bcast_S_S512 main_cst_21
  let main_v71 : IVec S512 1 := cmpf .oeq main_arg26 main_v70
  let main_v72 : IVec S512 1 := andi main_v69 main_v71
  fn_part4 (F := F) main_arg9 main_arg10 main_arg19 main_arg20 main_arg27 main_arg28 main_arg29 main_arg30 main_v2 main_v25 main_v72

def fn_part2 {F : FTy → Type} [FloatOps F] (main_arg7 : FVec F S512 .f32) (main_arg8 : FVec F S512 .f32) (main_arg9 : FVec F S1x512 .f32) (main_arg10 : FVec F S1 .f32) (main_arg12 : FVec F S512 .f32) (main_arg13 : FVec F S512 .f32) (main_arg14 : FVec F S512 .f32) (main_arg16 : FVec F S512 .f32) (main_arg17 : FVec F S512 .f32) (main_arg18 : FVec F S512 .f32) (main_arg19 : FVec F S1x512 .f32) (main_arg20 : FVec F S1 .f32) (main_arg22 : FVec F S512 .f32) (main_arg23 : FVec F S512 .f32) (main_arg24 : FVec F S512 .f32) (main_arg26 : FVec F S512 .f32) (main_arg27 : FVec F S512 .f32) (main_arg28 : FVec F S512 .f32) (main_arg29 : FVec F S1x512 .f32) (main_arg30 : FVec F S1 .f32) (main_v2 : IVec S8x2048x512 1) (main_v25 : IVec S512x512x3 1) (main_v36 : IVec S512 1) : IVec S8x2048x512 1 × IVec S512x512x3 1 × IVec S512 1 × IVec S1x512 1 × IVec S1 1 :=
  let main_cst_10 : FVec F S_ .f32 := constant S_ .f32 0x3F800000#32
  let main_v37 : FVec F S512 .f32 := broadcastInDim S512 ![] bcast_S_S512 main_cst_10
  let main_v38 : IVec S512 1 := cmpf .oeq main_arg7 main_v37
  let main_v39 : IVec S512 1 := andi main_v36 main_v38
  let main_cst_11 : FVec F S_ .f32 := constant S_ .f32 0x00000000#32
  let main_v40 : FVec F S512 .f32 := broadcastInDim S512 ![] bcast_S_S512 main_cst_11
  let main_v41 : IVec S512 1 := cmpf .oeq main_arg8 main_v40
  let main_v42 : IVec S512 1 := andi main_v39 main_v41
  let main_cst_12 : FVec F S_ .f32 := constant S_ .f32 0x00000000#32
  let main_v43 : FVec F S512 .f32 := broadcastInDim S512 ![] bcast_S_S512 main_cst_12
  let main_v44 : IVec S512 1 := cmpf .oeq main_arg12 main_v43
  let main_v45 : IVec S512 1 := andi main_v42 main_v44
  let main_cst_13 : FVec F S_ .f32 := constant S_ .f32 0x3F800000#32
  let main_v46 : FVec F S512 .f32 := broadcastInDim S512 ![] bcast_S_S512 main_cst_13
  let main_v47 : IVec S512 1 := cmpf .oeq main_arg13 main_v46
  let main_v48 : IVec S512 1 := andi main_v45 main_v47
  let main_cst_14 : FVec F S_ .f32 := constant S_ .f32 0x00000000#32
  let main_v49 : FVec F S512 .f32 := broadcastInDim S512 ![] bcast_S_S512 main_cst_14
  let main_v50 : IVec S512 1 := cmpf .oeq main_arg14 main_v49
  let main_v51 : IVec S512 1 := andi main_v48 main_v50
  let main_cst_15 : FVec F S_ .f32 := constant S_ .f32 0x00000000#32
  let main_v52 : FVec F S512 .f32 := broadcastInDim S512 ![] bcast_S_S512 main_cst_15
  let main_v53 : IVec S512 1 := cmpf .oeq main_arg16 main_v52
  let main_v54 : IVec S512 1 := andi main_v51 main_v53
  fn_part3 (F := F) main_arg9 main_arg10 main_arg17 main_arg18 main_arg19 main_arg20 main_arg22 main_arg23 main_arg24 main_arg26 main_arg27 main_arg28 main_arg29 main_arg30 main_v2 main_v25 main_v54

def fn_part1 {F : FTy → Type} [FloatOps F] (main_arg2 : FVec F S512 .f32) (main_arg3 : FVec F S512 .f32) (main_arg4 : FVec F S512 .f32) (main_arg6 : FVec F S512 .f32) (main_arg7 : FVec F S512 .f32) (main_arg8 : FVec F S512 .f32) (main_arg9 : FVec F S1x512 .f32) (main_arg10 : FVec F S1 .f32) (main_arg12 : FVec F S512 .f32) (main_arg13 : FVec F S512 .f32) (main_arg14 : FVec F S512 .f32) (main_arg16 : FVec F S512 .f32) (main_arg17 : FVec F S512 .f32) (main_arg18 : FVec F S512 .f32) (main_arg19 : FVec F S1x512 .f32) (main_arg20 : FVec F S1 .f32) (main_arg22 : FVec F S512 .f32) (main_arg23 : FVec F S512 .f32) (main_arg24 : FVec F S512 .f32) (main_arg25 : FVec F S512x512x3 .f32) (main_arg26 : FVec F S512 .f32) (main_arg27 : FVec F S512 .f32) (main_arg28 : FVec F S512 .f32) (main_arg29 : FVec F S1x512 .f32) (main_arg30 : FVec F S1 .f32) (main_v2 : IVec S8x2048x512 1) (main_v17 : IVec S512x512x3 1) (main_v18 : FVec F S512x512x3 .f32) : IVec S8x2048x512 1 × IVec S512x512x3 1 × IVec S512 1 × IVec S1x512 1 × IVec S1 1 :=
  let main_cst_4 : FVec F S_ .f32 := constant S_ .f32 0x7F800000#32
  let main_v19 : FVec F S512x512x3 .f32 := broadcastInDim S512x512x3 ![] bcast_S_S512x512x3 main_cst_4
  let main_v20 : IVec S512x512x3 1 := cmpf .olt main_v18 main_v19
  let main_v21 : IVec S512x512x3 1 := andi main_v17 main_v20
  let main_v22 : FVec F S512x512x3 .f32 := Host.absf main_arg25
  let main_cst_5 : FVec F S_ .f32 := constant S_ .f32 0x7F800000#32
  let main_v23 : FVec F S512x512x3 .f32 := broadcastInDim S512x512x3 ![] bcast_S_S512x512x3 main_cst_5
  let main_v24 : IVec S512x512x3 1 := cmpf .olt main_v22 main_v23
  let main_v25 : IVec S512x512x3 1 := andi main_v21 main_v24
  let main_cst_6 : FVec F S_ .f32 := constant S_ .f32 0x00000000#32
  let main_v26 : FVec F S512 .f32 := broadcastInDim S512 ![] bcast_S_S512 main_cst_6
  let main_v27 : IVec S512 1 := cmpf .oeq main_arg2 main_v26
  let main_cst_7 : FVec F S_ .f32 := constant S_ .f32 0x3F800000#32
  let main_v28 : FVec F S512 .f32 := broadcastInDim S512 ![] bcast_S_S512 main_cst_7
  let main_v29 : IVec S512 1 := cmpf .oeq main_arg3 main_v28
  let main_v30 : IVec S512 1 := andi main_v27 main_v29
  let main_cst_8 : FVec F S_ .f32 := constant S_ .f32 0x00000000#32
  let main_v31 : FVec F S512 .f32 := broadcastInDim S512 ![] bcast_S_S512 main_cst_8
  let main_v32 : IVec S512 1 := cmpf .oeq main_arg4 main_v31
  let main_v33 : IVec S512 1 := andi main_v30 main_v32
  let main_cst_9 : FVec F S_ .f32 := constant S_ .f32 0x00000000#32
  let main_v34 : FVec F S512 .f32 := broadcastInDim S512 ![] bcast_S_S512 main_cst_9
  let main_v35 : IVec S512 1 := cmpf .oeq main_arg6 main_v34
  let main_v36 : IVec S512 1 := andi main_v33 main_v35
  fn_part2 (F := F) main_arg7 main_arg8 main_arg9 main_arg10 main_arg12 main_arg13 main_arg14 main_arg16 main_arg17 main_arg18 main_arg19 main_arg20 main_arg22 main_arg23 main_arg24 main_arg26 main_arg27 main_arg28 main_arg29 main_arg30 main_v2 main_v25 main_v36

def fn {F : FTy → Type} [FloatOps F] (main_arg0 : FVec F S8x2048x512 .f32) (main_arg1 : FVec F S512x512x3 .f32) (main_arg2 : FVec F S512 .f32) (main_arg3 : FVec F S512 .f32) (main_arg4 : FVec F S512 .f32) (main_arg5 : FVec F S512x512x3 .f32) (main_arg6 : FVec F S512 .f32) (main_arg7 : FVec F S512 .f32) (main_arg8 : FVec F S512 .f32) (main_arg9 : FVec F S1x512 .f32) (main_arg10 : FVec F S1 .f32) (main_arg11 : FVec F S512x512x3 .f32) (main_arg12 : FVec F S512 .f32) (main_arg13 : FVec F S512 .f32) (main_arg14 : FVec F S512 .f32) (main_arg15 : FVec F S512x512x3 .f32) (main_arg16 : FVec F S512 .f32) (main_arg17 : FVec F S512 .f32) (main_arg18 : FVec F S512 .f32) (main_arg19 : FVec F S1x512 .f32) (main_arg20 : FVec F S1 .f32) (main_arg21 : FVec F S512x512x3 .f32) (main_arg22 : FVec F S512 .f32) (main_arg23 : FVec F S512 .f32) (main_arg24 : FVec F S512 .f32) (main_arg25 : FVec F S512x512x3 .f32) (main_arg26 : FVec F S512 .f32) (main_arg27 : FVec F S512 .f32) (main_arg28 : FVec F S512 .f32) (main_arg29 : FVec F S1x512 .f32) (main_arg30 : FVec F S1 .f32) : IVec S8x2048x512 1 × IVec S512x512x3 1 × IVec S512 1 × IVec S1x512 1 × IVec S1 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_v3 : FVec F S512x512x3 .f32 := Host.absf main_arg1
  let main_cst_0 : FVec F S_ .f32 := constant S_ .f32 0x7F800000#32
  let main_v4 : FVec F S512x512x3 .f32 := broadcastInDim S512x512x3 ![] bcast_S_S512x512x3 main_cst_0
  let main_v5 : IVec S512x512x3 1 := cmpf .olt main_v3 main_v4
  let main_v6 : FVec F S512x512x3 .f32 := Host.absf main_arg5
  let main_cst_1 : FVec F S_ .f32 := constant S_ .f32 0x7F800000#32
  let main_v7 : FVec F S512x512x3 .f32 := broadcastInDim S512x512x3 ![] bcast_S_S512x512x3 main_cst_1
  let main_v8 : IVec S512x512x3 1 := cmpf .olt main_v6 main_v7
  let main_v9 : IVec S512x512x3 1 := andi main_v5 main_v8
  let main_v10 : FVec F S512x512x3 .f32 := Host.absf main_arg11
  let main_cst_2 : FVec F S_ .f32 := constant S_ .f32 0x7F800000#32
  let main_v11 : FVec F S512x512x3 .f32 := broadcastInDim S512x512x3 ![] bcast_S_S512x512x3 main_cst_2
  let main_v12 : IVec S512x512x3 1 := cmpf .olt main_v10 main_v11
  let main_v13 : IVec S512x512x3 1 := andi main_v9 main_v12
  let main_v14 : FVec F S512x512x3 .f32 := Host.absf main_arg15
  let main_cst_3 : FVec F S_ .f32 := constant S_ .f32 0x7F800000#32
  let main_v15 : FVec F S512x512x3 .f32 := broadcastInDim S512x512x3 ![] bcast_S_S512x512x3 main_cst_3
  let main_v16 : IVec S512x512x3 1 := cmpf .olt main_v14 main_v15
  let main_v17 : IVec S512x512x3 1 := andi main_v13 main_v16
  let main_v18 : FVec F S512x512x3 .f32 := Host.absf main_arg21
  fn_part1 (F := F) main_arg2 main_arg3 main_arg4 main_arg6 main_arg7 main_arg8 main_arg9 main_arg10 main_arg12 main_arg13 main_arg14 main_arg16 main_arg17 main_arg18 main_arg19 main_arg20 main_arg22 main_arg23 main_arg24 main_arg25 main_arg26 main_arg27 main_arg28 main_arg29 main_arg30 main_v2 main_v17 main_v18
-- ==== Kernel.lean ====
abbrev S8x2048x512 : Shape := ⟨3, ![8, 2048, 512]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S3x512x512 : Shape := ⟨3, ![3, 512, 512]⟩
abbrev S1536x512 : Shape := ⟨2, ![1536, 512]⟩
abbrev S1x1x512 : Shape := ⟨3, ![1, 1, 512]⟩
abbrev S3x1x512 : Shape := ⟨3, ![3, 1, 512]⟩
abbrev S3x8x2048x1 : Shape := ⟨4, ![3, 8, 2048, 1]⟩
abbrev S1x2048x512 : Shape := ⟨3, ![1, 2048, 512]⟩
abbrev S3x1x2048x1 : Shape := ⟨4, ![3, 1, 2048, 1]⟩
abbrev S2048x512 : Shape := ⟨2, ![2048, 512]⟩
abbrev S2047x512 : Shape := ⟨2, ![2047, 512]⟩
abbrev S2048x1536 : Shape := ⟨2, ![2048, 1536]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩
abbrev S255x512 : Shape := ⟨2, ![255, 512]⟩
abbrev S1x1x1 : Shape := ⟨3, ![1, 1, 1]⟩
abbrev S2048x1 : Shape := ⟨2, ![2048, 1]⟩
abbrev S1x1x2048x1 : Shape := ⟨4, ![1, 1, 2048, 1]⟩
abbrev S1x8x2048x1 : Shape := ⟨4, ![1, 8, 2048, 1]⟩
abbrev S8x2048x1 : Shape := ⟨3, ![8, 2048, 1]⟩

abbrev nBuf : Space → Nat
  | .hbm => 61
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S512x512x3, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512x3, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S1, .f32⟩
  | .hbm, ⟨11, _⟩ => ⟨S512x512x3, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x512x3, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S1x512, .f32⟩
  | .hbm, ⟨20, _⟩ => ⟨S1, .f32⟩
  | .hbm, ⟨21, _⟩ => ⟨S512x512x3, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512x512x3, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S1, .f32⟩
  | .hbm, ⟨31, _⟩ => ⟨S512x512x3, .bf16⟩
  | .hbm, ⟨32, _⟩ => ⟨S3x512x512, .bf16⟩
  | .hbm, ⟨33, _⟩ => ⟨S1536x512, .bf16⟩
  | .hbm, ⟨34, _⟩ => ⟨S512x512x3, .bf16⟩
  | .hbm, ⟨35, _⟩ => ⟨S3x512x512, .bf16⟩
  | .hbm, ⟨36, _⟩ => ⟨S1536x512, .bf16⟩
  | .hbm, ⟨37, _⟩ => ⟨S512x512x3, .bf16⟩
  | .hbm, ⟨38, _⟩ => ⟨S3x512x512, .bf16⟩
  | .hbm, ⟨39, _⟩ => ⟨S1536x512, .bf16⟩
  | .hbm, ⟨40, _⟩ => ⟨S512x512x3, .bf16⟩
  | .hbm, ⟨41, _⟩ => ⟨S3x512x512, .bf16⟩
  | .hbm, ⟨42, _⟩ => ⟨S1536x512, .bf16⟩
  | .hbm, ⟨43, _⟩ => ⟨S512x512x3, .bf16⟩
  | .hbm, ⟨44, _⟩ => ⟨S3x512x512, .bf16⟩
  | .hbm, ⟨45, _⟩ => ⟨S1536x512, .bf16⟩
  | .hbm, ⟨46, _⟩ => ⟨S512x512x3, .bf16⟩
  | .hbm, ⟨47, _⟩ => ⟨S3x512x512, .bf16⟩
  | .hbm, ⟨48, _⟩ => ⟨S1536x512, .bf16⟩
  | .hbm, ⟨49, _⟩ => ⟨S1x1x512, .f32⟩
  | .hbm, ⟨50, _⟩ => ⟨S1x1x512, .f32⟩
  | .hbm, ⟨51, _⟩ => ⟨S1x1x512, .f32⟩
  | .hbm, ⟨52, _⟩ => ⟨S3x1x512, .f32⟩
  | .hbm, ⟨53, _⟩ => ⟨S8x2048x512, .f32⟩
  | .hbm, ⟨54, _⟩ => ⟨S3x8x2048x1, .f32⟩
  | .hbm, ⟨55, _⟩ => ⟨S1x8x2048x1, .f32⟩
  | .hbm, ⟨56, _⟩ => ⟨S8x2048x1, .f32⟩
  | .hbm, ⟨57, _⟩ => ⟨S1x8x2048x1, .f32⟩
  | .hbm, ⟨58, _⟩ => ⟨S8x2048x1, .f32⟩
  | .hbm, ⟨59, _⟩ => ⟨S1x8x2048x1, .f32⟩
  | .hbm, ⟨60, _⟩ => ⟨S8x2048x1, .f32⟩
  | .local _ .vmem, ⟨0, _⟩ => ⟨S1x2048x512, .f32⟩
  | .local _ .vmem, ⟨1, _⟩ => ⟨S1x2048x512, .f32⟩
  | .local _ .vmem, ⟨2, _⟩ => ⟨S1536x512, .bf16⟩
  | .local _ .vmem, ⟨3, _⟩ => ⟨S1536x512, .bf16⟩
  | .local _ .vmem, ⟨4, _⟩ => ⟨S1536x512, .bf16⟩
  | .local _ .vmem, ⟨5, _⟩ => ⟨S1536x512, .bf16⟩
  | .local _ .vmem, ⟨6, _⟩ => ⟨S1536x512, .bf16⟩
  | .local _ .vmem, ⟨7, _⟩ => ⟨S1536x512, .bf16⟩
  | .local _ .vmem, ⟨8, _⟩ => ⟨S3x1x512, .f32⟩
  | .local _ .vmem, ⟨9, _⟩ => ⟨S1x2048x512, .f32⟩
  | .local _ .vmem, ⟨10, _⟩ => ⟨S1x2048x512, .f32⟩
  | .local _ .vmem, ⟨11, _⟩ => ⟨S3x1x2048x1, .f32⟩
  | .local _ .vmem, ⟨12, _⟩ => ⟨S3x1x2048x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22_0 : Ref sig .tc := ⟨.hbm, 53, rfl⟩
abbrev main_v22_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x1x2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x2048x512 : Shape := ⟨3, ![8, 2048, 512]⟩
abbrev S512x512x3 : Shape := ⟨3, ![512, 512, 3]⟩
abbrev S512 : Shape := ⟨1, ![512]⟩
abbrev S1x512 : Shape := ⟨2, ![1, 512]⟩
abbrev S1 : Shape := ⟨1, ![1]⟩
abbrev S_ : Shape := ⟨0, ![]⟩
abbrev S8x2050x512 : Shape := ⟨3, ![8, 2050, 512]⟩
abbrev S512x512x1 : Shape := ⟨3, ![512, 512, 1]⟩
abbrev S512x512 : Shape := ⟨2, ![512, 512]⟩
abbrev S1x1x512 : Shape := ⟨3, ![1, 1, 512]⟩
abbrev S8x2048 : Shape := ⟨2, ![8, 2048]⟩
abbrev S8x2048x1 : Shape := ⟨3, ![8, 2048, 1]⟩
abbrev S512x1 : Shape := ⟨2, ![512, 1]⟩
abbrev S1x1x1 : Shape := ⟨3, ![1, 1, 1]⟩

abbrev nBuf : Space → Nat
  | .hbm => 380
  | .vmem => 0
  | .smem => 0
  | _ => 0

abbrev hbmTy0_0 (i : Nat) : BufTy := match i % 128 with
  | 0 => ⟨S8x2048x512, .f32⟩
  | 1 => ⟨S512x512x3, .f32⟩
  | 2 => ⟨S512, .f32⟩
  | 3 => ⟨S512, .f32⟩
  | 4 => ⟨S512, .f32⟩
  | 5 => ⟨S512x512x3, .f32⟩
  | 6 => ⟨S512, .f32⟩
  | 7 => ⟨S512, .f32⟩
  | 8 => ⟨S512, .f32⟩
  | 9 => ⟨S1x512, .f32⟩
  | 10 => ⟨S1, .f32⟩
  | 11 => ⟨S512x512x3, .f32⟩
  | 12 => ⟨S512, .f32⟩
  | 13 => ⟨S512, .f32⟩
  | 14 => ⟨S512, .f32⟩
  | 15 => ⟨S512x512x3, .f32⟩
  | 16 => ⟨S512, .f32⟩
  | 17 => ⟨S512, .f32⟩
  | 18 => ⟨S512, .f32⟩
  | 19 => ⟨S1x512, .f32⟩
  | 20 => ⟨S1, .f32⟩
  | 21 => ⟨S512x512x3, .f32⟩
  | 22 => ⟨S512, .f32⟩
  | 23 => ⟨S512, .f32⟩
  | 24 => ⟨S512, .f32⟩
  | 25 => ⟨S512x512x3, .f32⟩
  | 26 => ⟨S512, .f32⟩
  | 27 => ⟨S512, .f32⟩
  | 28 => ⟨S512, .f32⟩
  | 29 => ⟨S1x512, .f32⟩
  | 30 => ⟨S1, .f32⟩
  | 31 => ⟨S_, .i32⟩
  | 32 => ⟨S_, .f32⟩
  | 33 => ⟨S8x2050x512, .f32⟩
  | 34 => ⟨S8x2048x512, .f32⟩
  | 35 => ⟨S512x512x1, .f32⟩
  | 36 => ⟨S512x512, .f32⟩
  | 37 => ⟨S8x2048x512, .f32⟩
  | 38 => ⟨S_, .f32⟩
  | 39 => ⟨S8x2048x512, .f32⟩
  | 40 => ⟨S8x2048x512, .f32⟩
  | 41 => ⟨S8x2048x512, .f32⟩
  | 42 => ⟨S512x512x1, .f32⟩
  | 43 => ⟨S512x512, .f32⟩
  | 44 => ⟨S8x2048x512, .f32⟩
  | 45 => ⟨S8x2048x512, .f32⟩
  | 46 => ⟨S8x2048x512, .f32⟩
  | 47 => ⟨S512x512x1, .f32⟩
  | 48 => ⟨S512x512, .f32⟩
  | 49 => ⟨S8x2048x512, .f32⟩
  | 50 => ⟨S8x2048x512, .f32⟩
  | 51 => ⟨S1x1x512, .f32⟩
  | 52 => ⟨S8x2048x512, .f32⟩
  | 53 => ⟨S8x2048x512, .f32⟩
  | 54 => ⟨S_, .f32⟩
  | 55 => ⟨S8x2048x512, .f32⟩
  | 56 => ⟨S8x2048x512, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S8x2048x512, .f32⟩
  | 64 => ⟨S8x2048x512, .f32⟩
  | 65 => ⟨S8x2048x512, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S8x2048x512, .f32⟩
  | 73 => ⟨S8x2048x512, .f32⟩
  | 74 => ⟨S_, .f32⟩
  | 75 => ⟨S8x2048x1, .f32⟩
  | 76 => ⟨S8x2048x1, .f32⟩
  | 77 => ⟨S8x2048x1, .f32⟩
  | 78 => ⟨S8x2048x512, .f32⟩
  | 79 => ⟨S8x2048x512, .f32⟩
  | 80 => ⟨S1x1x512, .f32⟩
  | 81 => ⟨S8x2048x512, .f32⟩
  | 82 => ⟨S8x2048x512, .f32⟩
  | 83 => ⟨S1x1x512, .f32⟩
  | 84 => ⟨S8x2048x512, .f32⟩
  | 85 => ⟨S8x2048x512, .f32⟩
  | 86 => ⟨S_, .i32⟩
  | 87 => ⟨S_, .f32⟩
  | 88 => ⟨S8x2050x512, .f32⟩
  | 89 => ⟨S8x2048x512, .f32⟩
  | 90 => ⟨S512x512x1, .f32⟩
  | 91 => ⟨S512x512, .f32⟩
  | 92 => ⟨S8x2048x512, .f32⟩
  | 93 => ⟨S_, .f32⟩
  | 94 => ⟨S8x2048x512, .f32⟩
  | 95 => ⟨S8x2048x512, .f32⟩
  | 96 => ⟨S8x2048x512, .f32⟩
  | 97 => ⟨S512x512x1, .f32⟩
  | 98 => ⟨S512x512, .f32⟩
  | 99 => ⟨S8x2048x512, .f32⟩
  | 100 => ⟨S8x2048x512, .f32⟩
  | 101 => ⟨S8x2048x512, .f32⟩
  | 102 => ⟨S512x512x1, .f32⟩
  | 103 => ⟨S512x512, .f32⟩
  | 104 => ⟨S8x2048x512, .f32⟩
  | 105 => ⟨S8x2048x512, .f32⟩
  | 106 => ⟨S1x1x512, .f32⟩
  | 107 => ⟨S8x2048x512, .f32⟩
  | 108 => ⟨S8x2048x512, .f32⟩
  | 109 => ⟨S_, .f32⟩
  | 110 => ⟨S8x2048x512, .f32⟩
  | 111 => ⟨S8x2048x512, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S8x2048x512, .f32⟩
  | 119 => ⟨S8x2048x512, .f32⟩
  | 120 => ⟨S8x2048x512, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S8x2048x512, .f32⟩
  | _ => ⟨S8x2048x512, .f32⟩

abbrev hbmTy0_1 (i : Nat) : BufTy := match i % 128 with
  | 0 => ⟨S8x2048x512, .f32⟩
  | 1 => ⟨S_, .f32⟩
  | 2 => ⟨S8x2048x1, .f32⟩
  | 3 => ⟨S8x2048x1, .f32⟩
  | 4 => ⟨S8x2048x1, .f32⟩
  | 5 => ⟨S8x2048x512, .f32⟩
  | 6 => ⟨S8x2048x512, .f32⟩
  | 7 => ⟨S1x1x512, .f32⟩
  | 8 => ⟨S8x2048x512, .f32⟩
  | 9 => ⟨S8x2048x512, .f32⟩
  | 10 => ⟨S1x1x512, .f32⟩
  | 11 => ⟨S8x2048x512, .f32⟩
  | 12 => ⟨S8x2048x512, .f32⟩
  | 13 => ⟨S512x1, .f32⟩
  | 14 => ⟨S8x2048x1, .f32⟩
  | 15 => ⟨S1x1x1, .f32⟩
  | 16 => ⟨S8x2048x1, .f32⟩
  | 17 => ⟨S8x2048x1, .f32⟩
  | 18 => ⟨S_, .i32⟩
  | 19 => ⟨S_, .f32⟩
  | 20 => ⟨S8x2050x512, .f32⟩
  | 21 => ⟨S8x2048x512, .f32⟩
  | 22 => ⟨S512x512x1, .f32⟩
  | 23 => ⟨S512x512, .f32⟩
  | 24 => ⟨S8x2048x512, .f32⟩
  | 25 => ⟨S_, .f32⟩
  | 26 => ⟨S8x2048x512, .f32⟩
  | 27 => ⟨S8x2048x512, .f32⟩
  | 28 => ⟨S8x2048x512, .f32⟩
  | 29 => ⟨S512x512x1, .f32⟩
  | 30 => ⟨S512x512, .f32⟩
  | 31 => ⟨S8x2048x512, .f32⟩
  | 32 => ⟨S8x2048x512, .f32⟩
  | 33 => ⟨S8x2048x512, .f32⟩
  | 34 => ⟨S512x512x1, .f32⟩
  | 35 => ⟨S512x512, .f32⟩
  | 36 => ⟨S8x2048x512, .f32⟩
  | 37 => ⟨S8x2048x512, .f32⟩
  | 38 => ⟨S1x1x512, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S8x2048x512, .f32⟩
  | 51 => ⟨S8x2048x512, .f32⟩
  | 52 => ⟨S8x2048x512, .f32⟩
  | 53 => ⟨S_, .f32⟩
  | 54 => ⟨S8x2048, .f32⟩
  | 55 => ⟨S8x2048x1, .f32⟩
  | 56 => ⟨S_, .f32⟩
  | 57 => ⟨S8x2048x1, .f32⟩
  | 58 => ⟨S8x2048x1, .f32⟩
  | 59 => ⟨S8x2048x512, .f32⟩
  | 60 => ⟨S8x2048x512, .f32⟩
  | 61 => ⟨S_, .f32⟩
  | 62 => ⟨S8x2048x1, .f32⟩
  | 63 => ⟨S8x2048x1, .f32⟩
  | 64 => ⟨S8x2048x1, .f32⟩
  | 65 => ⟨S8x2048x512, .f32⟩
  | 66 => ⟨S8x2048x512, .f32⟩
  | 67 => ⟨S1x1x512, .f32⟩
  | 68 => ⟨S8x2048x512, .f32⟩
  | 69 => ⟨S8x2048x512, .f32⟩
  | 70 => ⟨S1x1x512, .f32⟩
  | 71 => ⟨S8x2048x512, .f32⟩
  | 72 => ⟨S8x2048x512, .f32⟩
  | 73 => ⟨S_, .i32⟩
  | 74 => ⟨S_, .f32⟩
  | 75 => ⟨S8x2050x512, .f32⟩
  | 76 => ⟨S8x2048x512, .f32⟩
  | 77 => ⟨S512x512x1, .f32⟩
  | 78 => ⟨S512x512, .f32⟩
  | 79 => ⟨S8x2048x512, .f32⟩
  | 80 => ⟨S_, .f32⟩
  | 81 => ⟨S8x2048x512, .f32⟩
  | 82 => ⟨S8x2048x512, .f32⟩
  | 83 => ⟨S8x2048x512, .f32⟩
  | 84 => ⟨S512x512x1, .f32⟩
  | 85 => ⟨S512x512, .f32⟩
  | 86 => ⟨S8x2048x512, .f32⟩
  | 87 => ⟨S8x2048x512, .f32⟩
  | 88 => ⟨S8x2048x512, .f32⟩
  | 89 => ⟨S512x512x1, .f32⟩
  | 90 => ⟨S512x512, .f32⟩
  | 91 => ⟨S8x2048x512, .f32⟩
  | 92 => ⟨S8x2048x512, .f32⟩
  | 93 => ⟨S1x1x512, .f32⟩
  | 94 => ⟨S8x2048x512, .f32⟩
  | 95 => ⟨S8x2048x512, .f32⟩
  | 96 => ⟨S_, .f32⟩
  | 97 => ⟨S8x2048x512, .f32⟩
  | 98 => ⟨S8x2048x512, .f32⟩
  | 99 => ⟨S_, .f32⟩
  | 100 => ⟨S8x2048, .f32⟩
  | 101 => ⟨S8x2048x1, .f32⟩
  | 102 => ⟨S_, .f32⟩
  | 103 => ⟨S8x2048x1, .f32⟩
  | 104 => ⟨S8x2048x1, .f32⟩
  | 105 => ⟨S8x2048x512, .f32⟩
  | 106 => ⟨S8x2048x512, .f32⟩
  | 107 => ⟨S8x2048x512, .f32⟩
  | 108 => ⟨S_, .f32⟩
  | 109 => ⟨S8x2048, .f32⟩
  | 110 => ⟨S8x2048x1, .f32⟩
  | 111 => ⟨S_, .f32⟩
  | 112 => ⟨S8x2048x1, .f32⟩
  | 113 => ⟨S8x2048x1, .f32⟩
  | 114 => ⟨S8x2048x512, .f32⟩
  | 115 => ⟨S8x2048x512, .f32⟩
  | 116 => ⟨S_, .f32⟩
  | 117 => ⟨S8x2048x1, .f32⟩
  | 118 => ⟨S8x2048x1, .f32⟩
  | 119 => ⟨S8x2048x1, .f32⟩
  | 120 => ⟨S8x2048x512, .f32⟩
  | 121 => ⟨S8x2048x512, .f32⟩
  | 122 => ⟨S1x1x512, .f32⟩
  | 123 => ⟨S8x2048x512, .f32⟩
  | 124 => ⟨S8x2048x512, .f32⟩
  | 125 => ⟨S1x1x512, .f32⟩
  | 126 => ⟨S8x2048x512, .f32⟩
  | 127 => ⟨S8x2048x512, .f32⟩
  | _ => ⟨S8x2048x512, .f32⟩

abbrev hbmTy0_2 (i : Nat) : BufTy := match i % 128 with
  | 0 => ⟨S512x1, .f32⟩
  | 1 => ⟨S8x2048x1, .f32⟩
  | 2 => ⟨S1x1x1, .f32⟩
  | 3 => ⟨S8x2048x1, .f32⟩
  | 4 => ⟨S8x2048x1, .f32⟩
  | 5 => ⟨S8x2048x512, .f32⟩
  | 6 => ⟨S8x2048x512, .f32⟩
  | 7 => ⟨S_, .i32⟩
  | 8 => ⟨S_, .f32⟩
  | 9 => ⟨S8x2050x512, .f32⟩
  | 10 => ⟨S8x2048x512, .f32⟩
  | 11 => ⟨S512x512x1, .f32⟩
  | 12 => ⟨S512x512, .f32⟩
  | 13 => ⟨S8x2048x512, .f32⟩
  | 14 => ⟨S_, .f32⟩
  | 15 => ⟨S8x2048x512, .f32⟩
  | 16 => ⟨S8x2048x512, .f32⟩
  | 17 => ⟨S8x2048x512, .f32⟩
  | 18 => ⟨S512x512x1, .f32⟩
  | 19 => ⟨S512x512, .f32⟩
  | 20 => ⟨S8x2048x512, .f32⟩
  | 21 => ⟨S8x2048x512, .f32⟩
  | 22 => ⟨S8x2048x512, .f32⟩
  | 23 => ⟨S512x512x1, .f32⟩
  | 24 => ⟨S512x512, .f32⟩
  | 25 => ⟨S8x2048x512, .f32⟩
  | 26 => ⟨S8x2048x512, .f32⟩
  | 27 => ⟨S1x1x512, .f32⟩
  | 28 => ⟨S8x2048x512, .f32⟩
  | 29 => ⟨S8x2048x512, .f32⟩
  | 30 => ⟨S_, .f32⟩
  | 31 => ⟨S8x2048x512, .f32⟩
  | 32 => ⟨S8x2048x512, .f32⟩
  | 33 => ⟨S_, .f32⟩
  | 34 => ⟨S8x2048, .f32⟩
  | 35 => ⟨S8x2048x1, .f32⟩
  | 36 => ⟨S_, .f32⟩
  | 37 => ⟨S8x2048x1, .f32⟩
  | 38 => ⟨S8x2048x1, .f32⟩
  | 39 => ⟨S8x2048x512, .f32⟩
  | 40 => ⟨S8x2048x512, .f32⟩
  | 41 => ⟨S8x2048x512, .f32⟩
  | 42 => ⟨S_, .f32⟩
  | 43 => ⟨S8x2048, .f32⟩
  | 44 => ⟨S8x2048x1, .f32⟩
  | 45 => ⟨S_, .f32⟩
  | 46 => ⟨S8x2048x1, .f32⟩
  | 47 => ⟨S8x2048x1, .f32⟩
  | 48 => ⟨S8x2048x512, .f32⟩
  | 49 => ⟨S8x2048x512, .f32⟩
  | 50 => ⟨S_, .f32⟩
  | 51 => ⟨S8x2048x1, .f32⟩
  | 52 => ⟨S8x2048x1, .f32⟩
  | 53 => ⟨S8x2048x1, .f32⟩
  | 54 => ⟨S8x2048x512, .f32⟩
  | 55 => ⟨S8x2048x512, .f32⟩
  | 56 => ⟨S1x1x512, .f32⟩
  | 57 => ⟨S8x2048x512, .f32⟩
  | 58 => ⟨S8x2048x512, .f32⟩
  | 59 => ⟨S1x1x512, .f32⟩
  | 60 => ⟨S8x2048x512, .f32⟩
  | 61 => ⟨S8x2048x512, .f32⟩
  | 62 => ⟨S_, .i32⟩
  | 63 => ⟨S_, .f32⟩
  | 64 => ⟨S8x2050x512, .f32⟩
  | 65 => ⟨S8x2048x512, .f32⟩
  | 66 => ⟨S512x512x1, .f32⟩
  | 67 => ⟨S512x512, .f32⟩
  | 68 => ⟨S8x2048x512, .f32⟩
  | 69 => ⟨S_, .f32⟩
  | 70 => ⟨S8x2048x512, .f32⟩
  | 71 => ⟨S8x2048x512, .f32⟩
  | 72 => ⟨S8x2048x512, .f32⟩
  | 73 => ⟨S512x512x1, .f32⟩
  | 74 => ⟨S512x512, .f32⟩
  | 75 => ⟨S8x2048x512, .f32⟩
  | 76 => ⟨S8x2048x512, .f32⟩
  | 77 => ⟨S8x2048x512, .f32⟩
  | 78 => ⟨S512x512x1, .f32⟩
  | 79 => ⟨S512x512, .f32⟩
  | 80 => ⟨S8x2048x512, .f32⟩
  | 81 => ⟨S8x2048x512, .f32⟩
  | 82 => ⟨S1x1x512, .f32⟩
  | 83 => ⟨S8x2048x512, .f32⟩
  | 84 => ⟨S8x2048x512, .f32⟩
  | 85 => ⟨S_, .f32⟩
  | 86 => ⟨S8x2048x512, .f32⟩
  | 87 => ⟨S8x2048x512, .f32⟩
  | 88 => ⟨S_, .f32⟩
  | 89 => ⟨S8x2048, .f32⟩
  | 90 => ⟨S8x2048x1, .f32⟩
  | 91 => ⟨S_, .f32⟩
  | 92 => ⟨S8x2048x1, .f32⟩
  | 93 => ⟨S8x2048x1, .f32⟩
  | 94 => ⟨S8x2048x512, .f32⟩
  | 95 => ⟨S8x2048x512, .f32⟩
  | 96 => ⟨S8x2048x512, .f32⟩
  | 97 => ⟨S_, .f32⟩
  | 98 => ⟨S8x2048, .f32⟩
  | 99 => ⟨S8x2048x1, .f32⟩
  | 100 => ⟨S_, .f32⟩
  | 101 => ⟨S8x2048x1, .f32⟩
  | 102 => ⟨S8x2048x1, .f32⟩
  | 103 => ⟨S8x2048x512, .f32⟩
  | 104 => ⟨S8x2048x512, .f32⟩
  | 105 => ⟨S_, .f32⟩
  | 106 => ⟨S8x2048x1, .f32⟩
  | 107 => ⟨S8x2048x1, .f32⟩
  | 108 => ⟨S8x2048x1, .f32⟩
  | 109 => ⟨S8x2048x512, .f32⟩
  | 110 => ⟨S8x2048x512, .f32⟩
  | 111 => ⟨S1x1x512, .f32⟩
  | 112 => ⟨S8x2048x512, .f32⟩
  | 113 => ⟨S8x2048x512, .f32⟩
  | 114 => ⟨S1x1x512, .f32⟩
  | 115 => ⟨S8x2048x512, .f32⟩
  | 116 => ⟨S8x2048x512, .f32⟩
  | 117 => ⟨S512x1, .f32⟩
  | 118 => ⟨S8x2048x1, .f32⟩
  | 119 => ⟨S1x1x1, .f32⟩
  | 120 => ⟨S8x2048x1, .f32⟩
  | 121 => ⟨S8x2048x1, .f32⟩
  | 122 => ⟨S8x2048x512, .f32⟩
  | 123 => ⟨S8x2048x512, .f32⟩
  | _ => ⟨S8x2048x512, .f32⟩

abbrev hbmTy (i : Nat) : BufTy := match i / 128 with
  | 0 => hbmTy0_0 i
  | 1 => hbmTy0_1 i
  | 2 => hbmTy0_2 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_call0_v0 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_call1_cst : Ref sig .tc := ⟨.hbm, 54, rfl⟩
abbrev main_call1_v0 : Ref sig .tc := ⟨.hbm, 55, rfl⟩
abbrev main_v20 : Ref sig .tc := ⟨.hbm, 56, rfl⟩
abbrev main_cst_0 : Ref sig .tc := ⟨.hbm, 57, rfl⟩
abbrev main_v21 : Ref sig .tc := ⟨.hbm, 58, rfl⟩
abbrev main_v22 : Ref sig .tc := ⟨.hbm, 59, rfl⟩
abbrev main_cst_1 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_v29 : Ref sig .tc := ⟨.hbm, 68, rfl⟩
abbrev main_cst_3 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_5 : Ref sig .tc := ⟨.hbm, 86, rfl⟩
abbrev main_call2_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_cst_6 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call3_cst : Ref sig .tc := ⟨.hbm, 109, rfl⟩
abbrev main_call3_v0 : Ref sig .tc := ⟨.hbm, 110, rfl⟩
abbrev main_v65 : Ref sig .tc := ⟨.hbm, 111, rfl⟩
abbrev main_cst_7 : Ref sig .tc := ⟨.hbm, 112, rfl⟩
abbrev main_v66 : Ref sig .tc := ⟨.hbm, 113, rfl⟩
abbrev main_v67 : Ref sig .tc := ⟨.hbm, 114, rfl⟩
abbrev main_cst_8 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_9 : Ref sig .tc := ⟨.hbm, 121, rfl⟩
abbrev main_v73 : Ref sig .tc := ⟨.hbm, 122, rfl⟩
abbrev main_v74 : Ref sig .tc := ⟨.hbm, 123, rfl⟩
abbrev main_cst_10 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_cst_11 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_12 : Ref sig .tc := ⟨.hbm, 146, rfl⟩
abbrev main_call4_v0 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_13 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_call5_cst : Ref sig .tc := ⟨.hbm, 169, rfl⟩
abbrev main_call5_v0 : Ref sig .tc := ⟨.hbm, 170, rfl⟩
abbrev main_v115 : Ref sig .tc := ⟨.hbm, 171, rfl⟩
abbrev main_cst_14 : Ref sig .tc := ⟨.hbm, 172, rfl⟩
abbrev main_v116 : Ref sig .tc := ⟨.hbm, 173, rfl⟩
abbrev main_v117 : Ref sig .tc := ⟨.hbm, 174, rfl⟩
abbrev main_cst_15 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_16 : Ref sig .tc := ⟨.hbm, 181, rfl⟩
abbrev main_v123 : Ref sig .tc := ⟨.hbm, 182, rfl⟩
abbrev main_v124 : Ref sig .tc := ⟨.hbm, 183, rfl⟩
abbrev main_cst_17 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_18 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_19 : Ref sig .tc := ⟨.hbm, 201, rfl⟩
abbrev main_call6_v0 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_20 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_call7_cst : Ref sig .tc := ⟨.hbm, 224, rfl⟩
abbrev main_call7_v0 : Ref sig .tc := ⟨.hbm, 225, rfl⟩
abbrev main_v160 : Ref sig .tc := ⟨.hbm, 226, rfl⟩
abbrev main_cst_21 : Ref sig .tc := ⟨.hbm, 227, rfl⟩
abbrev main_v161 : Ref sig .tc := ⟨.hbm, 228, rfl⟩
abbrev main_v162 : Ref sig .tc := ⟨.hbm, 229, rfl⟩
abbrev main_cst_22 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_23 : Ref sig .tc := ⟨.hbm, 236, rfl⟩
abbrev main_v168 : Ref sig .tc := ⟨.hbm, 237, rfl⟩
abbrev main_v169 : Ref sig .tc := ⟨.hbm, 238, rfl⟩
abbrev main_cst_24 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_25 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_c_26 : Ref sig .tc := ⟨.hbm, 263, rfl⟩
abbrev main_call8_v0 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_cst_27 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_call9_cst : Ref sig .tc := ⟨.hbm, 286, rfl⟩
abbrev main_call9_v0 : Ref sig .tc := ⟨.hbm, 287, rfl⟩
abbrev main_v212 : Ref sig .tc := ⟨.hbm, 288, rfl⟩
abbrev main_cst_28 : Ref sig .tc := ⟨.hbm, 289, rfl⟩
abbrev main_v213 : Ref sig .tc := ⟨.hbm, 290, rfl⟩
abbrev main_v214 : Ref sig .tc := ⟨.hbm, 291, rfl⟩
abbrev main_cst_29 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_cst_30 : Ref sig .tc := ⟨.hbm, 298, rfl⟩
abbrev main_v220 : Ref sig .tc := ⟨.hbm, 299, rfl⟩
abbrev main_v221 : Ref sig .tc := ⟨.hbm, 300, rfl⟩
abbrev main_cst_31 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_cst_32 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_c_33 : Ref sig .tc := ⟨.hbm, 318, rfl⟩
abbrev main_call10_v0 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_cst_34 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_call11_cst : Ref sig .tc := ⟨.hbm, 341, rfl⟩
abbrev main_call11_v0 : Ref sig .tc := ⟨.hbm, 342, rfl⟩
abbrev main_v257 : Ref sig .tc := ⟨.hbm, 343, rfl⟩
abbrev main_cst_35 : Ref sig .tc := ⟨.hbm, 344, rfl⟩
abbrev main_v258 : Ref sig .tc := ⟨.hbm, 345, rfl⟩
abbrev main_v259 : Ref sig .tc := ⟨.hbm, 346, rfl⟩
abbrev main_cst_36 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_cst_37 : Ref sig .tc := ⟨.hbm, 353, rfl⟩
abbrev main_v265 : Ref sig .tc := ⟨.hbm, 354, rfl⟩
abbrev main_v266 : Ref sig .tc := ⟨.hbm, 355, rfl⟩
abbrev main_cst_38 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_cst_39 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_v288 : Ref sig .tc := ⟨.hbm, 379, rfl⟩

abbrev nD : Nat := 1
abbrev τ : Topo := Topo.v7x

variable {F : FTy → Type} [FloatOps F]
-- ==== Proof.Pieces.lean ====
/- The kernel's body in functions of its own: the mean and the scale of a layer normalisation, the normalisation
   itself, a convolution's product with its rectifier, the three-tap features of a block of rows, and the score of
   a block. The body runs eight blocks of 256 rows for each of three predictors; each block is the same function of
   the features, and this file states it of each predictor once, whatever the float values are. -/
module

public import proofs.«01_k».proof.Proof.Gen.KernelIdeal.Frame

@[expose] public section

set_option maxRecDepth 16384

noncomputable section

namespace Cert.Adaptor

open Cert.KernelIdeal Cert.KernelIdeal.Gen Idealize.ShloMosaic Idealize.SL.Sem

variable {F : FTy → Type} [FloatOps F]

/-- The mean of each row of a block of 256 rows. -/
def rowMean (h : FVec F S256x512 .f32) : FVec F S256x1 .f32 :=
  divf (shapeCast S256x1 (multiReduction .add [1] S256 h 0x00000000#32 reduces_S256x512_S256 (.inl rfl) rfl) shapeCasts_S256_S256x1)
    (broadcast S256x1 (Scalar.ofBits .f32 0x44000000#32))

/-- The reciprocal of each row's deviation, its variance taken as the mean of the squares less the square of the mean. -/
def rowScale (h : FVec F S256x512 .f32) : FVec F S256x1 .f32 :=
  rsqrt (addf (subf (rowMean (mulf h h)) (mulf (rowMean h) (rowMean h))) (broadcast S256x1 (Scalar.ofBits .f32 0x3727C5AC#32)))

/-- Each row normalised. -/
def normalise (h : FVec F S256x512 .f32) : FVec F S256x512 .bf16 :=
  truncf .bf16 (mulf (subf h (broadcastTo S256x512 (rowMean h) broadcasts_S256x1_S256x512))
    (broadcastTo S256x512 (rowScale h) broadcasts_S256x1_S256x512)) bitsLt_bf16_f32

/-- A block of features times the stacked weights, its negative entries set to zero. -/
def hidden (xc : FVec F S256x1536 .bf16) (w : FVec F S1536x512 .bf16) : FVec F S256x512 .f32 :=
  maximumf (matmul dot_S256x1536_S1536x512_S256x512_1_0_0_1_n_n none xc w (constant S256x512 .f32 0x00000000#32))
    (broadcast S256x512 (Scalar.ofBits .f32 0x00000000#32))

/-- A row of zeros. -/
def zeroRow : FVec F S1x512 .bf16 := broadcast S1x512 (Scalar.ofBits .bf16 0x0000#16)

/-- The features of the whole array: each row's predecessor, the row, its successor, zeros beyond the two ends. -/
def features (x : FVec F S1x2048x512 .f32) : FVec F S2048x1536 .bf16 :=
  let v : FVec F S2048x512 .bf16 := truncf .bf16 (shapeCast S2048x512 x shapeCasts_S1x2048x512_S2048x512) bitsLt_bf16_f32
  concatenate S2048x1536 1
    [⟨S2048x512, concatenate S2048x512 0 [⟨S1x512, zeroRow⟩, ⟨S2047x512, extractStridedSlice S2047x512 ![0, 0] v slices_S2048x512_o0_0_S2047x512⟩] concatenates_S1x512_S2047x512_S2048x512_d0⟩,
     ⟨S2048x512, v⟩,
     ⟨S2048x512, concatenate S2048x512 0 [⟨S2047x512, extractStridedSlice S2047x512 ![1, 0] v slices_S2048x512_o1_0_S2047x512⟩, ⟨S1x512, zeroRow⟩] concatenates_S2047x512_S1x512_S2048x512_d0⟩]
    concatenates_S2048x512_S2048x512_S2048x512_S2048x1536_d1

/-- Rows `256 i` to `256 i + 255` lie inside the 2048 rows of the features. -/
theorem slices_block (i : Fin 8) : S2048x1536.Slices ![256 * i.val, 0] S256x1536 := by
  revert i; decide

/-- The first layer's normalised rows of block `i`. -/
def layer (xc : FVec F S2048x1536 .bf16) (w : FVec F S1536x512 .bf16) (i : Fin 8) : FVec F S256x512 .bf16 :=
  normalise (hidden (extractStridedSlice S256x1536 ![256 * i.val, 0] xc (slices_block i)) w)

/-- The features of a block of rows, the rows before and after it given. -/
def seam (before : FVec F S1x512 .bf16) (n : FVec F S256x512 .bf16) (after : FVec F S1x512 .bf16) : FVec F S256x1536 .bf16 :=
  concatenate S256x1536 1
    [⟨S256x512, concatenate S256x512 0 [⟨S1x512, before⟩, ⟨S255x512, extractStridedSlice S255x512 ![0, 0] n slices_S256x512_o0_0_S255x512⟩] concatenates_S1x512_S255x512_S256x512_d0⟩,
     ⟨S256x512, n⟩,
     ⟨S256x512, concatenate S256x512 0 [⟨S255x512, extractStridedSlice S255x512 ![1, 0] n slices_S256x512_o1_0_S255x512⟩, ⟨S1x512, after⟩] concatenates_S255x512_S1x512_S256x512_d0⟩]
    concatenates_S256x512_S256x512_S256x512_S256x1536_d1

/-- The row before block `i`: the last of the block before it, zeros before the first. -/
def rowBefore (n : Fin 8 → FVec F S256x512 .bf16) (i : Fin 8) : FVec F S1x512 .bf16 :=
  if h : i.val = 0 then zeroRow else extractStridedSlice S1x512 ![255, 0] (n ⟨i.val - 1, by omega⟩) slices_S256x512_o255_0_S1x512

/-- The row after block `i`: the first of the block after it, zeros after the last. -/
def rowAfter (n : Fin 8 → FVec F S256x512 .bf16) (i : Fin 8) : FVec F S1x512 .bf16 :=
  if h : i.val = 7 then zeroRow else extractStridedSlice S1x512 ![0, 0] (n ⟨i.val + 1, by omega⟩) slices_S256x512_o0_0_S1x512

/-- The sum of the weights of the last layer. -/
def weightSum (lw : FVec F S1x512 .f32) : F .f32 :=
  extractAt ![0, 0, 0] (shapeCast S1x1x1 (multiReduction .add [1, 2] S1 (shapeCast S1x1x512 lw shapeCasts_S1x512_S1x1x512) 0x00000000#32 reduces_S1x1x512_S1 (.inl rfl) rfl) shapeCasts_S1_S1x1x1) inpos_S1x1x1_p0_0_0

/-- The last layer of a block, the normalisation moved behind its product. -/
def head (h : FVec F S256x512 .f32) (lw : FVec F S1x512 .f32) : FVec F S256x1 .f32 :=
  mulf (rowScale h)
    (subf (shapeCast S256x1 (multiReduction .add [1] S256 (mulf h (broadcastTo S256x512 lw broadcasts_S1x512_S256x512)) 0x00000000#32 reduces_S256x512_S256 (.inl rfl) rfl) shapeCasts_S256_S256x1)
      (mulf (rowMean h) (broadcast S256x1 (weightSum lw))))

/-- The score of block `i`. -/
def score (n : Fin 8 → FVec F S256x512 .bf16) (w : FVec F S1536x512 .bf16) (lw : FVec F S1x512 .f32) (i : Fin 8) : FVec F S256x1 .f32 :=
  head (hidden (seam (rowBefore n i) (n i) (rowAfter n i)) w) lw

/-- The eight blocks' scores, one below the other. -/
def scores (s : Fin 8 → FVec F S256x1 .f32) : FVec F S2048x1 .f32 :=
  concatenate S2048x1 0 [⟨S256x1, s 0⟩, ⟨S256x1, s 1⟩, ⟨S256x1, s 2⟩, ⟨S256x1, s 3⟩, ⟨S256x1, s 4⟩, ⟨S256x1, s 5⟩, ⟨S256x1, s 6⟩, ⟨S256x1, s 7⟩]
    concatenates_S256x1_S256x1_S256x1_S256x1_S256x1_S256x1_S256x1_S256x1_S2048x1_d0

/-- The stacked weights as they are loaded. -/
def weights (w : Vec F S1536x512 .bf16) : FVec F S1536x512 .bf16 := shapeCast S1536x512 (View.ld w r0_1) shapeCasts_S1536x512_S1536x512

/-- One predictor: its scores of the 2048 rows. -/
def predictor (x : Vec F S1x2048x512 .f32) (w1 w2 : Vec F S1536x512 .bf16) (lw : FVec F S1x512 .f32) : FVec F S2048x1 .f32 :=
  scores (score (layer (features (View.ld x r0_0)) (weights w1)) (weights w2) lw)

variable (x0 : Vec F S1x2048x512 .f32) (x1 x2 x3 x4 x5 x6 : Vec F S1536x512 .bf16) (x7 : Vec F S3x1x512 .f32)

/-- The last layer's weights of one predictor as they are loaded. -/
def headWeights (r : Vec F S1x1x512 .f32) : FVec F S1x512 .f32 := shapeCast S1x512 r shapeCasts_S1x1x512_S1x512

/-! ### The three predictors' scores -/

/-- What the body computes for its first predictor is `predictor` of its inputs and its weights. -/
theorem dur_scores : k0_pay40 (k0_pay151 x0 x1 x2 x3 x4 x5 x6 x7) (k0_pay26 (k0_pay151 x0 x1 x2 x3 x4 x5 x6 x7) (k0_pay23 (k0_pay142 x0 x1 x2 x3 x4 x5 x6 x7) (k0_pay143 x0 x1 x2 x3 x4 x5 x6 x7) (View.ld x4 r0_1)) (k0_pay24 (k0_pay142 x0 x1 x2 x3 x4 x5 x6 x7) (k0_pay143 x0 x1 x2 x3 x4 x5 x6 x7) (View.ld x4 r0_1)) (k0_pay25 (k0_pay142 x0 x1 x2 x3 x4 x5 x6 x7) (k0_pay143 x0 x1 x2 x3 x4 x5 x6 x7) (View.ld x4 r0_1))) (k0_pay27 (k0_pay142 x0 x1 x2 x3 x4 x5 x6 x7) (k0_pay143 x0 x1 x2 x3 x4 x5 x6 x7) (k0_pay144 x0 x1 x2 x3 x4 x5 x6 x7) (k0_pay150 x0 x1 x2 x3 x4 x5 x6 x7) (k0_pay151 x0 x1 x2 x3 x4 x5 x6 x7)) (k0_pay28 (k0_pay143 x0 x1 x2 x3 x4 x5 x6 x7) (k0_pay144 x0 x1 x2 x3 x4 x5 x6 x7) (k0_pay145 x0 x1 x2 x3 x4 x5 x6 x7) (k0_pay150 x0 x1 x2 x3 x4 x5 x6 x7) (k0_pay151 x0 x1 x2 x3 x4 x5 x6 x7)) (k0_pay31 (k0_pay151 x0 x1 x2 x3 x4 x5 x6 x7) (k0_pay29 (k0_pay144 x0 x1 x2 x3 x4 x5 x6 x7) (k0_pay145 x0 x1 x2 x3 x4 x5 x6 x7) (k0_pay146 x0 x1 x2 x3 x4 x5 x6 x7) (k0_pay150 x0 x1 x2 x3 x4 x5 x6 x7)) (k0_pay30 (k0_pay144 x0 x1 x2 x3 x4 x5 x6 x7) (k0_pay145 x0 x1 x2 x3 x4 x5 x6 x7) (k0_pay146 x0 x1 x2 x3 x4 x5 x6 x7) (k0_pay150 x0 x1 x2 x3 x4 x5 x6 x7))) (k0_pay35 (k0_pay151 x0 x1 x2 x3 x4 x5 x6 x7) (k0_pay32 (k0_pay145 x0 x1 x2 x3 x4 x5 x6 x7) (k0_pay146 x0 x1 x2 x3 x4 x5 x6 x7) (k0_pay147 x0 x1 x2 x3 x4 x5 x6 x7) (k0_pay150 x0 x1 x2 x3 x4 x5 x6 x7)) (k0_pay33 (k0_pay145 x0 x1 x2 x3 x4 x5 x6 x7) (k0_pay146 x0 x1 x2 x3 x4 x5 x6 x7) (k0_pay147 x0 x1 x2 x3 x4 x5 x6 x7) (k0_pay150 x0 x1 x2 x3 x4 x5 x6 x7)) (k0_pay34 (k0_pay145 x0 x1 x2 x3 x4 x5 x6 x7) (k0_pay146 x0 x1 x2 x3 x4 x5 x6 x7) (k0_pay147 x0 x1 x2 x3 x4 x5 x6 x7) (k0_pay150 x0 x1 x2 x3 x4 x5 x6 x7))) (k0_pay36 (k0_pay146 x0 x1 x2 x3 x4 x5 x6 x7) (k0_pay147 x0 x1 x2 x3 x4 x5 x6 x7) (k0_pay148 x0 x1 x2 x3 x4 x5 x6 x7) (k0_pay150 x0 x1 x2 x3 x4 x5 x6 x7) (k0_pay151 x0 x1 x2 x3 x4 x5 x6 x7)) (k0_pay37 (k0_pay147 x0 x1 x2 x3 x4 x5 x6 x7) (k0_pay148 x0 x1 x2 x3 x4 x5 x6 x7) (k0_pay149 x0 x1 x2 x3 x4 x5 x6 x7) (k0_pay150 x0 x1 x2 x3 x4 x5 x6 x7) (k0_pay151 x0 x1 x2 x3 x4 x5 x6 x7)) (k0_pay38 (k0_pay148 x0 x1 x2 x3 x4 x5 x6 x7) (k0_pay149 x0 x1 x2 x3 x4 x5 x6 x7) (k0_pay150 x0 x1 x2 x3 x4 x5 x6 x7)) (k0_pay39 (k0_pay148 x0 x1 x2 x3 x4 x5 x6 x7) (k0_pay149 x0 x1 x2 x3 x4 x5 x6 x7) (k0_pay150 x0 x1 x2 x3 x4 x5 x6 x7)) = predictor x0 x1 x4 (headWeights (View.ld x7 r0_2)) := by
  rfl

/-- What the body computes for its second predictor is `predictor` of its inputs and its weights. -/
theorem pit_scores : k0_pay163 x0 x1 x2 x3 x4 x5 x6 x7 = predictor x0 x2 x5 (headWeights (View.ld x7 r0_3)) := by
  rfl

/-- What the body computes for its third predictor is `predictor` of its inputs and its weights. -/
theorem eng_scores : k0_pay135 (k0_pay175 x0 x1 x2 x3 x4 x5 x6 x7) (k0_pay176 x0 x1 x2 x3 x4 x5 x6 x7) (k0_pay177 x0 x1 x2 x3 x4 x5 x6 x7) (k0_pay178 x0 x1 x2 x3 x4 x5 x6 x7) (k0_pay179 x0 x1 x2 x3 x4 x5 x6 x7) (k0_pay180 x0 x1 x2 x3 x4 x5 x6 x7) (k0_pay181 x0 x1 x2 x3 x4 x5 x6 x7) (k0_pay182 x0 x1 x2 x3 x4 x5 x6 x7) (k0_pay183 x0 x1 x2 x3 x4 x5 x6 x7) (k0_pay184 x0 x1 x2 x3 x4 x5 x6 x7) (k0_pay185 x0 x1 x2 x3 x4 x5 x6 x7) = predictor x0 x3 x6 (headWeights (View.ld x7 r0_4)) := by
  rfl

end Cert.Adaptor

end
-- ==== Proof.Maths.lean ====
/- The mathematics of the network over the real numbers, without the programs: layer normalisation in its two forms,
   the three-tap convolution along the rows, a predictor's two hidden layers and its score, and the arithmetic of the
   extended reals on real operands. -/
module

public import Idealize.ShloMosaic.Lib.Pointwise
public import Idealize.ShloMosaic.Lib.IdealHost

@[expose] public section

noncomputable section

namespace Cert.Adaptor

open Idealize.ShloMosaic

/-! ## Extended reals that are real -/

/-- A sum of real numbers is the same sum among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greater of two real numbers is the same among the extended reals. -/
theorem coe_max (a b : ℝ) : max (a : EReal) (b : EReal) = ((max a b : ℝ) : EReal) :=
  (EReal.coe_strictMono.monotone.map_max (a := a) (b := b)).symm

/-- A quotient of real numbers, the divisor not zero, is the same among the extended reals. -/
theorem coe_div {b : ℝ} (hb : b ≠ 0) (a : ℝ) : Ideal.div (a : EReal) (b : EReal) = ((a / b : ℝ) : EReal) := by
  rw [Ideal.div_coe hb, ← EReal.coe_mul, mul_one_div]

/-- The number of channels, as it is written in the programs. -/
theorem ofBits_512 : Ideal.ofBits .f32 0x44000000#32 = ((512 : ℝ) : EReal) := by
  simp [Ideal.ofBits, Ideal.ieee, -EReal.coe_mul]; norm_num

/-- The number added to a variance. -/
def eps : ℝ := 10995116 / 1099511627776

/-- It is positive. -/
theorem eps_pos : 0 < eps := by norm_num [eps]

/-- That number, as it is written in the programs. -/
theorem ofBits_eps : Ideal.ofBits .f32 0x3727C5AC#32 = ((eps : ℝ) : EReal) := by
  simp [Ideal.ofBits, Ideal.ieee, -EReal.coe_mul, eps]; norm_num

/-- The reciprocal square root of a positive real number. -/
theorem coe_rsqrt {r : ℝ} (h : 0 < r) : Ideal.rsqrt (r : EReal) = (((Real.sqrt r)⁻¹ : ℝ) : EReal) := by
  rw [Ideal.rsqrt_coe, if_neg (not_lt.mpr h.le), if_neg h.ne']

/-- The square root of a positive real number. -/
theorem coe_sqrt {r : ℝ} (h : 0 < r) : Ideal.sqrt (r : EReal) = ((Real.sqrt r : ℝ) : EReal) := by
  rw [Ideal.sqrt_coe, if_neg (not_lt.mpr h.le)]

/-! ## Layer normalisation -/

/-- The mean of a row. -/
def meanR (v : Fin 512 → ℝ) : ℝ := (∑ c, v c) / 512

/-- The variance of a row: the mean square distance from the mean. -/
def varR (v : Fin 512 → ℝ) : ℝ := (∑ c, (v c - meanR v) * (v c - meanR v)) / 512

/-- A row normalised. -/
def normR (v : Fin 512 → ℝ) (c : Fin 512) : ℝ := (v c - meanR v) / Real.sqrt (varR v + eps)

/-- A variance is not negative. -/
theorem varR_nonneg (v : Fin 512 → ℝ) : 0 ≤ varR v :=
  div_nonneg (Finset.sum_nonneg fun c _ => mul_self_nonneg _) (by norm_num)

/-- A variance with that number added is positive. -/
theorem var_eps_pos (v : Fin 512 → ℝ) : 0 < varR v + eps := add_pos_of_nonneg_of_pos (varR_nonneg v) eps_pos

/-- The mean square less the square of the mean is the variance. -/
theorem mean_sq_sub (v : Fin 512 → ℝ) : meanR (fun c => v c * v c) - meanR v * meanR v = varR v := by
  have h : ∑ c, (v c - meanR v) * (v c - meanR v) = (∑ c, v c * v c) - 512 * (meanR v * meanR v) := by
    have e : ∀ c, (v c - meanR v) * (v c - meanR v) = v c * v c - 2 * meanR v * v c + meanR v * meanR v := fun c => by ring
    have s : ∑ c, v c = 512 * meanR v := by unfold meanR; ring
    simp only [e, Finset.sum_add_distrib, Finset.sum_sub_distrib, ← Finset.mul_sum, s, Finset.sum_const, Finset.card_univ,
      Fintype.card_fin, nsmul_eq_mul]
    push_cast; ring
  unfold varR
  rw [h]
  unfold meanR
  ring

/-- A row normalised and multiplied into weights, the normalisation carried out after the product. -/
theorem sum_norm_mul (v w : Fin 512 → ℝ) :
    (Real.sqrt (varR v + eps))⁻¹ * ((∑ c, v c * w c) - meanR v * ∑ c, w c) = ∑ c, normR v c * w c := by
  rw [Finset.mul_sum, ← Finset.sum_sub_distrib, Finset.mul_sum]
  refine Finset.sum_congr rfl fun c _ => ?_
  unfold normR
  ring

/-! ## The network -/

/-- The row before row `l`; before the first, zeros. -/
def prevR (h : ℕ → Fin 512 → ℝ) (l : ℕ) (c : Fin 512) : ℝ := if l = 0 then 0 else h (l - 1) c

/-- The row after row `l`; after the last, zeros. -/
def nextR (h : ℕ → Fin 512 → ℝ) (l : ℕ) (c : Fin 512) : ℝ := if l = 2047 then 0 else h (l + 1) c

/-- The convolution along the rows with three taps, its ends padded with zeros: `w f c k` is output channel `f`'s
    weight of input channel `c` at tap `k`. -/
def convR (h : ℕ → Fin 512 → ℝ) (w : Fin 512 → Fin 512 → Fin 3 → ℝ) (l : ℕ) (f : Fin 512) : ℝ :=
  (∑ c, prevR h l c * w f c 0) + (∑ c, h l c * w f c 1) + ∑ c, nextR h l c * w f c 2

/-- A hidden layer: the convolution's positive part, each row normalised. -/
def layerR (h : ℕ → Fin 512 → ℝ) (w : Fin 512 → Fin 512 → Fin 3 → ℝ) (l : ℕ) : Fin 512 → ℝ :=
  normR fun f => max (convR h w l f) 0

/-- A predictor's score of row `l`: two hidden layers and a weighted sum. -/
def scoreR (x : ℕ → Fin 512 → ℝ) (w1 w2 : Fin 512 → Fin 512 → Fin 3 → ℝ) (lw : Fin 512 → ℝ) (l : ℕ) : ℝ :=
  ∑ f, layerR (layerR x w1) w2 l f * lw f

/-- A sum over the three taps' channels laid end to end is the sum of the three taps' sums. -/
theorem sum_taps (g : Fin 1536 → EReal) :
    ∑ k, g k = (∑ c : Fin 512, g ⟨c.val, by omega⟩) + (∑ c : Fin 512, g ⟨512 + c.val, by omega⟩) + ∑ c : Fin 512, g ⟨1024 + c.val, by omega⟩ := by
  have h1 := Fin.sum_univ_add (a := 512) (b := 1024) g
  have h2 := Fin.sum_univ_add (a := 512) (b := 512) fun i : Fin 1024 => g (Fin.natAdd 512 i)
  rw [h1, h2, ← add_assoc]
  refine congrArg₂ (· + ·) rfl (Finset.sum_congr rfl fun c _ => congrArg g (Fin.ext ?_))
  simp only [Fin.val_natAdd]; omega

end Cert.Adaptor

end
-- ==== Proof.Values.lean ====
/- The kernel's pieces read at an index over the extended reals, their operands real: each is the real formula of
   Maths.lean. -/
module

public import proofs.«01_k».proof.Proof.Pieces
public import proofs.«01_k».proof.Proof.Maths

@[expose] public section

set_option maxRecDepth 16384

noncomputable section

namespace Cert.Adaptor

open Cert.KernelIdeal Cert.KernelIdeal.Gen Idealize.ShloMosaic Idealize.SL.Sem

/-- A row's mean. -/
theorem rowMean_val (h : FVec Ideal S256x512 .f32) (a : Fin 256) (v : Fin 512 → ℝ)
    (H : ∀ f, h (ix2 a f) = (v f : EReal)) : rowMean h (ix2 a 0) = (meanR v : EReal) := by
  pointwise [rowMean]
  simp only [H, coe_sum, ofBits_512]
  rw [coe_div (by norm_num)]
  rfl

/-- A row's scale. -/
theorem rowScale_val (h : FVec Ideal S256x512 .f32) (a : Fin 256) (v : Fin 512 → ℝ)
    (H : ∀ f, h (ix2 a f) = (v f : EReal)) : rowScale h (ix2 a 0) = (((Real.sqrt (varR v + eps))⁻¹ : ℝ) : EReal) := by
  have h1 := rowMean_val h a v H
  have h2 := rowMean_val (mulf h h) a (fun c => v c * v c) (fun f => by pointwise; rw [H]; norm_cast)
  pointwise [rowScale]
  rw [h1, h2, ofBits_eps, ← EReal.coe_mul, ← EReal.coe_sub, mean_sq_sub, ← EReal.coe_add, coe_rsqrt (var_eps_pos v)]

/-- A normalised row. -/
theorem normalise_val (h : FVec Ideal S256x512 .f32) (a : Fin 256) (v : Fin 512 → ℝ)
    (H : ∀ f, h (ix2 a f) = (v f : EReal)) (f : Fin 512) : normalise h (ix2 a f) = (normR v f : EReal) := by
  pointwise [normalise]
  rw [rowMean_val h a v H, rowScale_val h a v H, H, ← EReal.coe_sub, ← EReal.coe_mul]
  rfl

/-- What the stacked weights hold: tap `k`'s weight of channel `c` into channel `f` in row `512 k + c`. -/
def IsWeights (W : FVec Ideal S1536x512 .bf16) (w : Fin 512 → Fin 512 → Fin 3 → ℝ) : Prop :=
  ∀ (k : Fin 3) (c f : Fin 512), W (ix2 ⟨512 * k.val + c.val, by omega⟩ f) = (w f c k : EReal)

/-- A row of features times the stacked weights, its positive part. -/
theorem hidden_val (xc : FVec Ideal S256x1536 .bf16) (W : FVec Ideal S1536x512 .bf16) (w : Fin 512 → Fin 512 → Fin 3 → ℝ)
    (hW : IsWeights W w) (a : Fin 256) (p m q : Fin 512 → ℝ)
    (hp : ∀ c : Fin 512, xc (ix2 a ⟨c.val, by omega⟩) = (p c : EReal))
    (hm : ∀ c : Fin 512, xc (ix2 a ⟨512 + c.val, by omega⟩) = (m c : EReal))
    (hq : ∀ c : Fin 512, xc (ix2 a ⟨1024 + c.val, by omega⟩) = (q c : EReal)) (f : Fin 512) :
    hidden xc W (ix2 a f) = ((max ((∑ c, p c * w f c 0) + (∑ c, m c * w f c 1) + ∑ c, q c * w f c 2) 0 : ℝ) : EReal) := by
  have w0 : ∀ c : Fin 512, W (ix2 ⟨c.val, by omega⟩ f) = (w f c 0 : EReal) := fun c => by
    rw [← hW 0 c f]; congr 2; ext; simp
  have w1 : ∀ c : Fin 512, W (ix2 ⟨512 + c.val, by omega⟩ f) = (w f c 1 : EReal) := fun c => by
    rw [← hW 1 c f]; congr 2
  have w2 : ∀ c : Fin 512, W (ix2 ⟨1024 + c.val, by omega⟩ f) = (w f c 2 : EReal) := fun c => by
    rw [← hW 2 c f]; congr 2
  pointwise [hidden]
  rw [sum_taps]
  simp only [hp, hm, hq, w0, w1, w2, ← EReal.coe_mul, coe_sum, ← EReal.coe_add]
  rw [← EReal.coe_zero, coe_max]

/-- The features at a row: the row before it. -/
theorem features_prev (x : FVec Ideal S1x2048x512 .f32) (X : ℕ → Fin 512 → ℝ)
    (H : ∀ (l : Fin 2048) (c : Fin 512), x (ix3 0 l c) = (X l.val c : EReal)) (l : Fin 2048) (c : Fin 512) :
    features x (ix2 l ⟨c.val, by omega⟩) = (prevR X l.val c : EReal) := by
  pointwise [features, zeroRow]
  unfold prevR
  by_cases h : l.val = 0
  · simp [h]
  · have h1 : ¬ l.val < 1 := by omega
    simp [h, h1, H]

/-- The features at a row: the row itself. -/
theorem features_self (x : FVec Ideal S1x2048x512 .f32) (X : ℕ → Fin 512 → ℝ)
    (H : ∀ (l : Fin 2048) (c : Fin 512), x (ix3 0 l c) = (X l.val c : EReal)) (l : Fin 2048) (c : Fin 512) :
    features x (ix2 l ⟨512 + c.val, by omega⟩) = (X l.val c : EReal) := by
  pointwise [features, zeroRow]
  have h1 : ¬ 512 + c.val < 512 := by omega
  have h2 : 512 + c.val - 512 < 512 := by omega
  simp [H]

/-- The features at a row: the row after it. -/
theorem features_next (x : FVec Ideal S1x2048x512 .f32) (X : ℕ → Fin 512 → ℝ)
    (H : ∀ (l : Fin 2048) (c : Fin 512), x (ix3 0 l c) = (X l.val c : EReal)) (l : Fin 2048) (c : Fin 512) :
    features x (ix2 l ⟨1024 + c.val, by omega⟩) = (nextR X l.val c : EReal) := by
  pointwise [features, zeroRow]
  unfold nextR
  have h1 : ¬ 1024 + c.val < 512 := by omega
  have h2 : ¬ 1024 + c.val - 512 < 512 := by omega
  by_cases h : l.val = 2047
  · simp [h, h1, h2]
  · have h3 : l.val < 2047 := by omega
    simp only [h1, h2, h3, h, dif_neg, dif_pos, if_false, if_true, reduceDIte, not_false_eq_true]
    rw [← H ⟨l.val + 1, by omega⟩ c]
    congr 2 <;> ext <;> simp <;> omega

/-- The features of a block at a row: the row before it. -/
theorem seam_prev (before after : FVec Ideal S1x512 .bf16) (n : FVec Ideal S256x512 .bf16) (a : Fin 256) (c : Fin 512) :
    seam before n after (ix2 a ⟨c.val, by omega⟩)
      = if h : a.val = 0 then before (ix2 0 c) else n (ix2 ⟨a.val - 1, by omega⟩ c) := by
  pointwise [seam]
  by_cases h : a.val = 0
  · simp [h]
  · have h1 : ¬ a.val < 1 := by omega
    simp [h, h1]

/-- The features of a block at a row: the row itself. -/
theorem seam_self (before after : FVec Ideal S1x512 .bf16) (n : FVec Ideal S256x512 .bf16) (a : Fin 256) (c : Fin 512) :
    seam before n after (ix2 a ⟨512 + c.val, by omega⟩) = n (ix2 a c) := by
  pointwise [seam]

/-- The features of a block at a row: the row after it. -/
theorem seam_next (before after : FVec Ideal S1x512 .bf16) (n : FVec Ideal S256x512 .bf16) (a : Fin 256) (c : Fin 512) :
    seam before n after (ix2 a ⟨1024 + c.val, by omega⟩)
      = if h : a.val = 255 then after (ix2 0 c) else n (ix2 ⟨a.val + 1, by omega⟩ c) := by
  pointwise [seam]
  have h1 : ¬ 1024 + c.val < 512 := by omega
  have h2 : ¬ 1024 + c.val - 512 < 512 := by omega
  by_cases h : a.val = 255
  · simp only [h1, h2, h, reduceDIte, lt_irrefl]
    congr 2; ext; simp; omega
  · have h3 : a.val < 255 := by omega
    simp only [h1, h2, h3, h, reduceDIte]
    congr 2 <;> ext <;> simp <;> omega

end Cert.Adaptor

end
-- ==== Proof.Predictor.lean ====
/- A predictor of the kernel read at an index over the extended reals, its operands real: block by block it is the real
   formula of Maths.lean. -/
module

public import proofs.«01_k».proof.Proof.Values

@[expose] public section

set_option maxRecDepth 16384

noncomputable section

namespace Cert.Adaptor

open Cert.KernelIdeal Cert.KernelIdeal.Gen Idealize.ShloMosaic Idealize.SL.Sem

/-- A block of rows cut out of the features. -/
theorem block_val (xc : FVec Ideal S2048x1536 .bf16) (i : Fin 8) (a : Fin 256) (k : Fin 1536) :
    extractStridedSlice S256x1536 ![256 * i.val, 0] xc (slices_block i) (ix2 a k) = xc (ix2 ⟨256 * i.val + a.val, by omega⟩ k) := by
  pointwise

/-- The first layer of a block, row by row. -/
theorem layer_val (x : FVec Ideal S1x2048x512 .f32) (X : ℕ → Fin 512 → ℝ)
    (H : ∀ (l : Fin 2048) (c : Fin 512), x (ix3 0 l c) = (X l.val c : EReal))
    (W : FVec Ideal S1536x512 .bf16) (w : Fin 512 → Fin 512 → Fin 3 → ℝ) (hW : IsWeights W w)
    (i : Fin 8) (a : Fin 256) (f : Fin 512) :
    layer (features x) W i (ix2 a f) = (layerR X w (256 * i.val + a.val) f : EReal) :=
  normalise_val _ a _ (fun f => hidden_val _ W w hW a _ _ _
    (fun c => (block_val _ i a _).trans (features_prev x X H ⟨256 * i.val + a.val, by omega⟩ c))
    (fun c => (block_val _ i a _).trans (features_self x X H ⟨256 * i.val + a.val, by omega⟩ c))
    (fun c => (block_val _ i a _).trans (features_next x X H ⟨256 * i.val + a.val, by omega⟩ c)) f) f

/-- What eight blocks of 256 rows hold: the rows of `h`. -/
def IsRows (n : Fin 8 → FVec Ideal S256x512 .bf16) (h : ℕ → Fin 512 → ℝ) : Prop :=
  ∀ (i : Fin 8) (a : Fin 256) (c : Fin 512), n i (ix2 a c) = (h (256 * i.val + a.val) c : EReal)

/-- The row before a block is the predecessor of its first row. -/
theorem rowBefore_val (n : Fin 8 → FVec Ideal S256x512 .bf16) (h : ℕ → Fin 512 → ℝ) (H : IsRows n h) (i : Fin 8) (c : Fin 512) :
    rowBefore n i (ix2 0 c) = (prevR h (256 * i.val) c : EReal) := by
  unfold rowBefore prevR
  by_cases h0 : i.val = 0
  · rw [dif_pos h0, if_pos (by omega)]
    pointwise [zeroRow]
    rfl
  · rw [dif_neg h0, if_neg (by omega)]
    pointwise
    rw [H]
    congr 2
    simp; omega

/-- The row after a block is the successor of its last row. -/
theorem rowAfter_val (n : Fin 8 → FVec Ideal S256x512 .bf16) (h : ℕ → Fin 512 → ℝ) (H : IsRows n h) (i : Fin 8) (c : Fin 512) :
    rowAfter n i (ix2 0 c) = (nextR h (256 * i.val + 255) c : EReal) := by
  unfold rowAfter nextR
  by_cases h0 : i.val = 7
  · rw [dif_pos h0, if_pos (by omega)]
    pointwise [zeroRow]
    rfl
  · rw [dif_neg h0, if_neg (by omega)]
    pointwise
    rw [H]
    rfl

/-- The second layer of a block before its normalisation, row by row. -/
theorem second_val (n : Fin 8 → FVec Ideal S256x512 .bf16) (h : ℕ → Fin 512 → ℝ) (H : IsRows n h)
    (W : FVec Ideal S1536x512 .bf16) (w : Fin 512 → Fin 512 → Fin 3 → ℝ) (hW : IsWeights W w)
    (i : Fin 8) (a : Fin 256) (f : Fin 512) :
    hidden (seam (rowBefore n i) (n i) (rowAfter n i)) W (ix2 a f) = ((max (convR h w (256 * i.val + a.val) f) 0 : ℝ) : EReal) :=
  hidden_val _ W w hW a (prevR h (256 * i.val + a.val)) (h (256 * i.val + a.val)) (nextR h (256 * i.val + a.val))
    (fun c => by
      rw [seam_prev]
      split_ifs with h0
      · rw [rowBefore_val n h H, h0, add_zero]
      · rw [H]; unfold prevR; rw [if_neg (by omega)]; congr 2; simp; omega)
    (fun c => by rw [seam_self, H])
    (fun c => by
      rw [seam_next]
      split_ifs with h0
      · rw [rowAfter_val n h H, h0]
      · rw [H]; unfold nextR; rw [if_neg (by omega)]; rfl) f

/-- The sum of the last layer's weights. -/
theorem weightSum_val (lw : FVec Ideal S1x512 .f32) (w : Fin 512 → ℝ) (H : ∀ c, lw (ix2 0 c) = (w c : EReal)) :
    weightSum lw = ((∑ c, w c : ℝ) : EReal) := by
  unfold weightSum
  pointwise
  simp only [H, coe_sum, Finset.univ_unique, Finset.sum_singleton]

/-- The last layer of a block: the normalisation behind the product is the normalisation before it. -/
theorem head_val (h : FVec Ideal S256x512 .f32) (a : Fin 256) (v : Fin 512 → ℝ) (H : ∀ f, h (ix2 a f) = (v f : EReal))
    (lw : FVec Ideal S1x512 .f32) (w : Fin 512 → ℝ) (Hw : ∀ c, lw (ix2 0 c) = (w c : EReal)) :
    head h lw (ix2 a 0) = ((∑ c, normR v c * w c : ℝ) : EReal) := by
  have h1 := rowMean_val h a v H
  have h2 := rowScale_val h a v H
  have h3 := weightSum_val lw w Hw
  rw [← sum_norm_mul]
  pointwise [head]
  rw [h1, h2, h3]
  simp only [H, Hw, ← EReal.coe_mul, coe_sum, ← EReal.coe_sub]

/-- The score of a block, row by row. -/
theorem score_val (n : Fin 8 → FVec Ideal S256x512 .bf16) (h : ℕ → Fin 512 → ℝ) (H : IsRows n h)
    (W : FVec Ideal S1536x512 .bf16) (w : Fin 512 → Fin 512 → Fin 3 → ℝ) (hW : IsWeights W w)
    (lw : FVec Ideal S1x512 .f32) (l : Fin 512 → ℝ) (Hl : ∀ c, lw (ix2 0 c) = (l c : EReal)) (i : Fin 8) (a : Fin 256) :
    score n W lw i (ix2 a 0) = ((∑ f, layerR h w (256 * i.val + a.val) f * l f : ℝ) : EReal) :=
  head_val _ a _ (second_val n h H W w hW i a) lw l Hl

/-- The eight blocks' scores at a row. -/
theorem scores_val (s : Fin 8 → FVec Ideal S256x1 .f32) (i : Fin 8) (a : Fin 256) :
    scores s (ix2 ⟨256 * i.val + a.val, by omega⟩ 0) = s i (ix2 a 0) := by
  have key : ∀ (k : Fin 8) (b : ℕ) (hb : b < 256), k.val = i.val → b = a.val → s k (ix2 ⟨b, hb⟩ 0) = s i (ix2 a 0) := by
    intro k b hb hk e
    obtain rfl := Fin.ext hk
    subst e
    rfl
  have hi := i.isLt
  pointwise [scores]
  split_ifs <;> refine key _ _ _ ?_ ?_ <;> (try simp) <;> omega

/-- A predictor's scores, row by row. -/
theorem predictor_val (x : Vec Ideal S1x2048x512 .f32) (X : ℕ → Fin 512 → ℝ)
    (H : ∀ (l : Fin 2048) (c : Fin 512), x (ix3 0 l c) = (X l.val c : EReal))
    (W1 W2 : Vec Ideal S1536x512 .bf16) (w1 w2 : Fin 512 → Fin 512 → Fin 3 → ℝ) (h1 : IsWeights W1 w1) (h2 : IsWeights W2 w2)
    (lw : FVec Ideal S1x512 .f32) (w : Fin 512 → ℝ) (Hl : ∀ c, lw (ix2 0 c) = (w c : EReal)) (l : Fin 2048) :
    predictor x W1 W2 lw (ix2 l 0) = (scoreR X w1 w2 w l.val : EReal) := by
  have e1 : IsWeights (weights W1) w1 := fun k c f => by rw [← h1 k c f]; pointwise [weights]
  have e2 : IsWeights (weights W2) w2 := fun k c f => by rw [← h2 k c f]; pointwise [weights]
  have e3 : ∀ (l : Fin 2048) (c : Fin 512), View.ld x r0_0 (ix3 0 l c) = (X l.val c : EReal) := fun l c => by
    rw [← H l c]; pointwise
  have hi : l = ⟨256 * (⟨l.val / 256, by omega⟩ : Fin 8).val + (⟨l.val % 256, by omega⟩ : Fin 256).val, by simp; omega⟩ :=
    Fin.ext (Nat.div_add_mod l.val 256).symm
  rw [predictor, hi, scores_val,
    score_val _ (layerR X w1) (fun i a c => layer_val _ X e3 _ w1 e1 i a c) _ w2 e2 lw w Hl]
  rfl

end Cert.Adaptor

end
-- ==== Proof.Blocks.lean ====
/- What the kernel's body leaves in its two output blocks, read at an index over the extended reals: the scores of the
   three predictors, and the inputs with two of them added. -/
module

public import proofs.«01_k».proof.Proof.Predictor
public import Idealize.ShloMosaic.Lib.Pipeline.ValueKit

@[expose] public section

set_option maxRecDepth 16384

noncomputable section

namespace Cert.Adaptor

open Cert.KernelIdeal Cert.KernelIdeal.Gen Idealize.ShloMosaic Idealize.SL.Sem

section pieces

variable {F : FTy → Type} [FloatOps F]
variable (x0 : Vec F S1x2048x512 .f32) (x1 x2 x3 x4 x5 x6 : Vec F S1536x512 .bf16) (x7 : Vec F S3x1x512 .f32)

/-- The offset of a view of a whole block. -/
theorem hz3 : (![0, 0, 0] : Fin 3 → Nat) = fun _ => 0 := funext fun a => by fin_cases a <;> rfl

/-- A block of outputs: the inputs, the second and the third predictor's scores added to every channel of their row. -/
def outputs (x : Vec F S1x2048x512 .f32) (p e : FVec F S2048x1 .f32) : Vec F S1x2048x512 .f32 :=
  k0_pay1 (k0_pay2 x) (addf p e)

/-- The block of outputs the body leaves. -/
theorem out8_eq : out0_8 x0 x1 x2 x3 x4 x5 x6 x7
    = outputs x0 (predictor x0 x2 x5 (headWeights (View.ld x7 r0_3))) (predictor x0 x3 x6 (headWeights (View.ld x7 r0_4))) := by
  rw [← eng_scores x0 x1 x2 x3 x4 x5 x6 x7, ← pit_scores x0 x1 x2 x3 x4 x5 x6 x7]
  unfold out0_8
  rw [View.canon_unit_zero hz3, View.ld_unit_zero hz3]
  rfl

/-- The scores of one predictor as they are stored. -/
def stored (s : FVec F S2048x1 .f32) : Vec F S1x1x2048x1 .f32 := shapeCast S1x1x2048x1 s shapeCasts_S2048x1_S1x1x2048x1

/-- The block of scores the body leaves: three stores. -/
theorem out9_eq : out0_9 x0 x1 x2 x3 x4 x5 x6 x7
    = View.canon [⟨r0_7, stored (predictor x0 x3 x6 (headWeights (View.ld x7 r0_4)))⟩,
        ⟨r0_6, stored (predictor x0 x2 x5 (headWeights (View.ld x7 r0_3)))⟩,
        ⟨r0_5, stored (predictor x0 x1 x4 (headWeights (View.ld x7 r0_2)))⟩] := by
  rw [← eng_scores x0 x1 x2 x3 x4 x5 x6 x7, ← pit_scores x0 x1 x2 x3 x4 x5 x6 x7, ← dur_scores x0 x1 x2 x3 x4 x5 x6 x7]
  rfl

end pieces

/-- What the eight input blocks of a grid point hold: the rows `X` of one sequence, the two layers' weights of each
    predictor, the last layers' weights. -/
structure Holds (X : ℕ → Fin 512 → ℝ) (w1 w2 : Fin 3 → Fin 512 → Fin 512 → Fin 3 → ℝ) (lw : Fin 3 → Fin 512 → ℝ)
    (x0 : Vec Ideal S1x2048x512 .f32) (x1 x2 x3 x4 x5 x6 : Vec Ideal S1536x512 .bf16) (x7 : Vec Ideal S3x1x512 .f32) : Prop where
  rows : ∀ (l : Fin 2048) (c : Fin 512), x0 (ix3 0 l c) = (X l.val c : EReal)
  dur1 : IsWeights x1 (w1 0)
  pit1 : IsWeights x2 (w1 1)
  eng1 : IsWeights x3 (w1 2)
  dur2 : IsWeights x4 (w2 0)
  pit2 : IsWeights x5 (w2 1)
  eng2 : IsWeights x6 (w2 2)
  last : ∀ (p : Fin 3) (c : Fin 512), x7 (ix3 p 0 c) = (lw p c : EReal)

section values

variable {X : ℕ → Fin 512 → ℝ} {w1 w2 : Fin 3 → Fin 512 → Fin 512 → Fin 3 → ℝ} {lw : Fin 3 → Fin 512 → ℝ}
variable {x0 : Vec Ideal S1x2048x512 .f32} {x1 x2 x3 x4 x5 x6 : Vec Ideal S1536x512 .bf16} {x7 : Vec Ideal S3x1x512 .f32}

/-- The three last layers' weights as they are loaded, one row of the stack each. -/
theorem last_val (H : Holds X w1 w2 lw x0 x1 x2 x3 x4 x5 x6 x7) (c : Fin 512) :
    headWeights (View.ld x7 r0_2) (ix2 0 c) = (lw 0 c : EReal) ∧ headWeights (View.ld x7 r0_3) (ix2 0 c) = (lw 1 c : EReal)
      ∧ headWeights (View.ld x7 r0_4) (ix2 0 c) = (lw 2 c : EReal) := by
  refine ⟨?_, ?_, ?_⟩
  · rw [← H.last 0 c]; pointwise [headWeights]
  · rw [← H.last 1 c]; pointwise [headWeights]
  · rw [← H.last 2 c]; pointwise [headWeights]

/-- The three predictors' scores of a block. -/
theorem predictors_val (H : Holds X w1 w2 lw x0 x1 x2 x3 x4 x5 x6 x7) (l : Fin 2048) :
    predictor x0 x1 x4 (headWeights (View.ld x7 r0_2)) (ix2 l 0) = (scoreR X (w1 0) (w2 0) (lw 0) l.val : EReal)
      ∧ predictor x0 x2 x5 (headWeights (View.ld x7 r0_3)) (ix2 l 0) = (scoreR X (w1 1) (w2 1) (lw 1) l.val : EReal)
      ∧ predictor x0 x3 x6 (headWeights (View.ld x7 r0_4)) (ix2 l 0) = (scoreR X (w1 2) (w2 2) (lw 2) l.val : EReal) :=
  ⟨predictor_val x0 X H.rows x1 x4 _ _ H.dur1 H.dur2 _ _ (fun c => (last_val H c).1) l,
   predictor_val x0 X H.rows x2 x5 _ _ H.pit1 H.pit2 _ _ (fun c => (last_val H c).2.1) l,
   predictor_val x0 X H.rows x3 x6 _ _ H.eng1 H.eng2 _ _ (fun c => (last_val H c).2.2) l⟩

/-- The block of outputs: the inputs, two scores added to every channel of their row. -/
theorem out8_val (H : Holds X w1 w2 lw x0 x1 x2 x3 x4 x5 x6 x7) (l : Fin 2048) (f : Fin 512) :
    out0_8 x0 x1 x2 x3 x4 x5 x6 x7 (ix3 0 l f)
      = ((X l.val f + (scoreR X (w1 1) (w2 1) (lw 1) l.val + scoreR X (w1 2) (w2 2) (lw 2) l.val) : ℝ) : EReal) := by
  rw [out8_eq]
  pointwise [outputs, k0_pay1, k0_pay2]
  rw [H.rows, (predictors_val H l).2.1, (predictors_val H l).2.2, ← EReal.coe_add, ← EReal.coe_add]

/-- Scores as they are stored, at a row. -/
theorem stored_val (s : FVec Ideal S2048x1 .f32) (j : S1x1x2048x1.Idx) : stored s j = s (ix2 (j 2) 0) := by
  idx_vars j
  pointwise [stored]

/-- The block of scores: predictor `p`'s score of row `l`. -/
theorem out9_val (H : Holds X w1 w2 lw x0 x1 x2 x3 x4 x5 x6 x7) (y : S3x1x2048x1.Idx) :
    out0_9 x0 x1 x2 x3 x4 x5 x6 x7 y = (scoreR X (w1 (y 0)) (w2 (y 0)) (lw (y 0)) (y 2).val : EReal) := by
  rw [out9_eq]
  refine View.canon_apply_of_pieces (Val := Elt Ideal) (e := .f32)
    (fun y : S3x1x2048x1.Idx => ((scoreR X (w1 (y 0)) (w2 (y 0)) (lw (y 0)) (y 2).val : ℝ) : EReal)) _ ?_ y (cover0_9 _ _ _ y)
  intro p hp x
  simp only [List.mem_cons, List.not_mem_nil, or_false] at hp
  rcases hp with rfl | rfl | rfl
  · refine (stored_val _ _).trans ((predictors_val H _).2.2.trans ?_)
    have h0 : r0_7.emb x 0 = (2 : Fin 3) := Fin.ext (by have := (x 0).isLt; show 2 + 1 * (x 0).val = 2; change (x 0).val < 1 at this; omega)
    have h2 : (r0_7.emb x 2).val = (x 2).val := by show 0 + 1 * (x 2).val = _; omega
    rw [h0, h2]
  · refine (stored_val _ _).trans ((predictors_val H _).2.1.trans ?_)
    have h0 : r0_6.emb x 0 = (1 : Fin 3) := Fin.ext (by have := (x 0).isLt; show 1 + 1 * (x 0).val = 1; change (x 0).val < 1 at this; omega)
    have h2 : (r0_6.emb x 2).val = (x 2).val := by show 0 + 1 * (x 2).val = _; omega
    rw [h0, h2]
  · refine (stored_val _ _).trans ((predictors_val H _).1.trans ?_)
    have h0 : r0_5.emb x 0 = (0 : Fin 3) := Fin.ext (by have := (x 0).isLt; show 0 + 1 * (x 0).val = 0; change (x 0).val < 1 at this; omega)
    have h2 : (r0_5.emb x 2).val = (x 2).val := by show 0 + 1 * (x 2).val = _; omega
    rw [h0, h2]

end values

end Cert.Adaptor

end
-- ==== Proof.Arrays.lean ====
/- The kernel's result arrays after the run, over the extended reals, its argument arrays real: every element is the real
   formula of Maths.lean. -/
module

public import proofs.«01_k».proof.Proof.Blocks
public import Idealize.ShloMosaic.Lib.Claim

@[expose] public section

set_option maxRecDepth 16384

noncomputable section

namespace Cert.Adaptor

open Cert.KernelIdeal Cert.KernelIdeal.Gen Idealize.ShloMosaic Idealize.ShloMosaic.TcCoe Idealize.SL.Sem
open Idealize.ShloMosaic.Pipeline (Dat)

/-- What the argument arrays hold: the sequences, and for each of the three predictors its two layers' weights and its
    last layer's. -/
structure Given (m : (ℓ : Loc nD τ sig) → Buf (Elt Ideal) ℓ) (c : Dev nD) (X : Fin 8 → ℕ → Fin 512 → ℝ)
    (w1 w2 : Fin 3 → Fin 512 → Fin 512 → Fin 3 → ℝ) (lw : Fin 3 → Fin 512 → ℝ) : Prop where
  rows : ∀ (b : Fin 8) (l : Fin 2048) (f : Fin 512), m ((c : Thread nD τ).loc main_arg0) (ix3 b l f) = (X b l.val f : EReal)
  dur1 : ∀ (f a : Fin 512) (k : Fin 3), m ((c : Thread nD τ).loc main_arg1) (ix3 f a k) = (w1 0 f a k : EReal)
  pit1 : ∀ (f a : Fin 512) (k : Fin 3), m ((c : Thread nD τ).loc main_arg11) (ix3 f a k) = (w1 1 f a k : EReal)
  eng1 : ∀ (f a : Fin 512) (k : Fin 3), m ((c : Thread nD τ).loc main_arg21) (ix3 f a k) = (w1 2 f a k : EReal)
  dur2 : ∀ (f a : Fin 512) (k : Fin 3), m ((c : Thread nD τ).loc main_arg5) (ix3 f a k) = (w2 0 f a k : EReal)
  pit2 : ∀ (f a : Fin 512) (k : Fin 3), m ((c : Thread nD τ).loc main_arg15) (ix3 f a k) = (w2 1 f a k : EReal)
  eng2 : ∀ (f a : Fin 512) (k : Fin 3), m ((c : Thread nD τ).loc main_arg25) (ix3 f a k) = (w2 2 f a k : EReal)
  durl : ∀ a : Fin 512, m ((c : Thread nD τ).loc main_arg9) (ix2 0 a) = (lw 0 a : EReal)
  pitl : ∀ a : Fin 512, m ((c : Thread nD τ).loc main_arg19) (ix2 0 a) = (lw 1 a : EReal)
  engl : ∀ a : Fin 512, m ((c : Thread nD τ).loc main_arg29) (ix2 0 a) = (lw 2 a : EReal)

/-- Weights re-laid for the kernel: the taps' matrices transposed and stacked. -/
def stacked (w : FVec Ideal S512x512x3 .f32) : FVec Ideal S1536x512 .bf16 :=
  shapeCast S1536x512 (transpose S3x512x512 [2, 1, 0] (truncf .bf16 w bitsLt_bf16_f32) transposes_S512x512x3_S3x512x512_2_1_0) shapeCasts_S3x512x512_S1536x512

/-- Re-laid weights hold tap `k`'s weight of channel `c` into channel `f` in row `512 k + c`. -/
theorem stacked_val (w : FVec Ideal S512x512x3 .f32) (r : Fin 512 → Fin 512 → Fin 3 → ℝ)
    (H : ∀ (f a : Fin 512) (k : Fin 3), w (ix3 f a k) = (r f a k : EReal)) : IsWeights (stacked w) r := by
  intro k a f
  rw [← H f a k]
  pointwise [stacked]

variable (m : (ℓ : Loc nD τ sig) → Buf (Elt Ideal) ℓ) (ρ : Dev nD → PrngReg) (c : Dev nD)

/-- The weights as the kernel's launch finds them. -/
theorem V_weights :
    V m c main_v2 = stacked (m ((c : Thread nD τ).loc main_arg1)) ∧ V m c main_v5 = stacked (m ((c : Thread nD τ).loc main_arg11))
      ∧ V m c main_v8 = stacked (m ((c : Thread nD τ).loc main_arg21)) ∧ V m c main_v11 = stacked (m ((c : Thread nD τ).loc main_arg5))
      ∧ V m c main_v14 = stacked (m ((c : Thread nD τ).loc main_arg15)) ∧ V m c main_v17 = stacked (m ((c : Thread nD τ).loc main_arg25)) := by
  refine ⟨?_, ?_, ?_, ?_, ?_, ?_⟩ <;> (entry_read; rfl)

/-- The last layers' weights as the kernel's launch finds them: the three rows stacked. -/
theorem V_last : V m c main_v21 = concatenate S3x1x512 0
    [⟨S1x1x512, broadcastInDim S1x1x512 ![1, 2] bcast_S1x512_S1x1x512_1_2 (m ((c : Thread nD τ).loc main_arg9))⟩,
     ⟨S1x1x512, broadcastInDim S1x1x512 ![1, 2] bcast_S1x512_S1x1x512_1_2 (m ((c : Thread nD τ).loc main_arg19))⟩,
     ⟨S1x1x512, broadcastInDim S1x1x512 ![1, 2] bcast_S1x512_S1x1x512_1_2 (m ((c : Thread nD τ).loc main_arg29))⟩]
    concatenates_S1x1x512_S1x1x512_S1x1x512_S3x1x512_d0 := by
  entry_read
  rfl

/-- Each window's block at point `t` of the grid: sequence `t` of the inputs and of the two results, the whole of the weights. -/
theorem index_row : ∀ t : Fin grid0.N,
    (win0_0.index t 0 = t.val ∧ win0_0.index t 1 = 0 ∧ win0_0.index t 2 = 0)
      ∧ (win0_8.index t 0 = t.val ∧ win0_8.index t 1 = 0 ∧ win0_8.index t 2 = 0)
      ∧ (win0_9.index t 0 = 0 ∧ win0_9.index t 1 = t.val ∧ win0_9.index t 2 = 0 ∧ win0_9.index t 3 = 0) := by
  decide +kernel

/-- The weights' windows are at the origin at every point. -/
theorem index_whole : ∀ t : Fin grid0.N,
    (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 0 ∧ win0_4.index t 1 = 0)
      ∧ (win0_5.index t 0 = 0 ∧ win0_5.index t 1 = 0) ∧ (win0_6.index t 0 = 0 ∧ win0_6.index t 1 = 0)
      ∧ (win0_7.index t 0 = 0 ∧ win0_7.index t 1 = 0 ∧ win0_7.index t 2 = 0) := by
  decide +kernel

/-- The grid has eight points. -/
theorem point_lt (t : Fin cfg0.N) : t.val < 8 := lt_of_lt_of_eq t.isLt N_0

/-- The place of the last layers' block. -/
theorem emb7 (t : Fin cfg0.N) (j : S3x1x512.Idx) : ((cfg0.win 7).blk t).view.emb j = j := by
  obtain ⟨-, -, -, -, -, -, i0, i1, i2⟩ := index_whole t
  funext a; apply Fin.ext
  match a with
  | ⟨0, _⟩ => show win0_7.index t 0 * 3 + 1 * (j 0).val = (j 0).val; omega
  | ⟨1, _⟩ => show win0_7.index t 1 * 1 + 1 * (j 1).val = (j 1).val; omega
  | ⟨2, _⟩ => show win0_7.index t 2 * 512 + 1 * (j 2).val = (j 2).val; omega

/-- Reading the last layers' block reads the whole of the array. -/
theorem read7 (t : Fin cfg0.N) (f : Vec Ideal S3x1x512 .f32) : ((cfg0.win 7).blk t).view.read (Elt Ideal) f = f :=
  funext fun j => congrArg f (emb7 t j)

/-- The weights' blocks are the whole of their arrays. -/
theorem iblk_whole (t : Fin cfg0.N) :
    iblk m c 1 t = V m c main_v2 ∧ iblk m c 2 t = V m c main_v5 ∧ iblk m c 3 t = V m c main_v8 ∧ iblk m c 4 t = V m c main_v11
      ∧ iblk m c 5 t = V m c main_v14 ∧ iblk m c 6 t = V m c main_v17 ∧ iblk m c 7 t = V m c main_v21 := by
  obtain ⟨⟨a1, b1⟩, ⟨a2, b2⟩, ⟨a3, b3⟩, ⟨a4, b4⟩, ⟨a5, b5⟩, ⟨a6, b6⟩, a7, b7, c7⟩ := index_whole t
  refine ⟨?_, ?_, ?_, ?_, ?_, ?_, ?_⟩
  · funext j
    show V m c main_v2 (((cfg0.win 1).blk t).view.emb j) = V m c main_v2 j
    congr 1; funext a; apply Fin.ext
    match a with
    | ⟨0, _⟩ => show win0_1.index t 0 * 1536 + 1 * (j 0).val = (j 0).val; omega
    | ⟨1, _⟩ => show win0_1.index t 1 * 512 + 1 * (j 1).val = (j 1).val; omega
  · funext j
    show V m c main_v5 (((cfg0.win 2).blk t).view.emb j) = V m c main_v5 j
    congr 1; funext a; apply Fin.ext
    match a with
    | ⟨0, _⟩ => show win0_2.index t 0 * 1536 + 1 * (j 0).val = (j 0).val; omega
    | ⟨1, _⟩ => show win0_2.index t 1 * 512 + 1 * (j 1).val = (j 1).val; omega
  · funext j
    show V m c main_v8 (((cfg0.win 3).blk t).view.emb j) = V m c main_v8 j
    congr 1; funext a; apply Fin.ext
    match a with
    | ⟨0, _⟩ => show win0_3.index t 0 * 1536 + 1 * (j 0).val = (j 0).val; omega
    | ⟨1, _⟩ => show win0_3.index t 1 * 512 + 1 * (j 1).val = (j 1).val; omega
  · funext j
    show V m c main_v11 (((cfg0.win 4).blk t).view.emb j) = V m c main_v11 j
    congr 1; funext a; apply Fin.ext
    match a with
    | ⟨0, _⟩ => show win0_4.index t 0 * 1536 + 1 * (j 0).val = (j 0).val; omega
    | ⟨1, _⟩ => show win0_4.index t 1 * 512 + 1 * (j 1).val = (j 1).val; omega
  · funext j
    show V m c main_v14 (((cfg0.win 5).blk t).view.emb j) = V m c main_v14 j
    congr 1; funext a; apply Fin.ext
    match a with
    | ⟨0, _⟩ => show win0_5.index t 0 * 1536 + 1 * (j 0).val = (j 0).val; omega
    | ⟨1, _⟩ => show win0_5.index t 1 * 512 + 1 * (j 1).val = (j 1).val; omega
  · funext j
    show V m c main_v17 (((cfg0.win 6).blk t).view.emb j) = V m c main_v17 j
    congr 1; funext a; apply Fin.ext
    match a with
    | ⟨0, _⟩ => show win0_6.index t 0 * 1536 + 1 * (j 0).val = (j 0).val; omega
    | ⟨1, _⟩ => show win0_6.index t 1 * 512 + 1 * (j 1).val = (j 1).val; omega
  · unfold iblk
    exact read7 t _

/-- The place of the inputs' block at point `t`. -/
theorem emb0 (t : Fin cfg0.N) (j : S1x2048x512.Idx) :
    ((cfg0.win 0).blk t).view.emb j = ix3 (⟨t.val, point_lt t⟩ : Fin 8) (j 1) (j 2) := by
  obtain ⟨⟨i0, i1, i2⟩, -⟩ := index_row t
  have hj := (j 0).isLt
  change (j 0).val < 1 at hj
  funext a; apply Fin.ext
  match a with
  | ⟨0, _⟩ => show win0_0.index t 0 * 1 + 1 * (j 0).val = t.val; omega
  | ⟨1, _⟩ => show win0_0.index t 1 * 2048 + 1 * (j 1).val = (j 1).val; omega
  | ⟨2, _⟩ => show win0_0.index t 2 * 512 + 1 * (j 2).val = (j 2).val; omega

/-- The inputs' block at point `t` is sequence `t`. -/
theorem iblk_row (t : Fin cfg0.N) (j : S1x2048x512.Idx) :
    iblk m c 0 t j = m ((c : Thread nD τ).loc main_arg0) (ix3 (⟨t.val, point_lt t⟩ : Fin 8) (j 1) (j 2)) :=
  (congrArg (V m c main_arg0) (emb0 t j)).trans (congrFun (V_main_arg0 m c) _)

/-- The outputs' block at point `t` is sequence `t`. -/
theorem emb8 (t : Fin cfg0.N) (j : S1x2048x512.Idx) :
    ((cfg0.win 8).blk t).view.emb j = ix3 (⟨t.val, point_lt t⟩ : Fin 8) (j 1) (j 2) := by
  obtain ⟨-, ⟨i0, i1, i2⟩, -⟩ := index_row t
  have hj := (j 0).isLt
  change (j 0).val < 1 at hj
  funext a; apply Fin.ext
  match a with
  | ⟨0, _⟩ => show win0_8.index t 0 * 1 + 1 * (j 0).val = t.val; omega
  | ⟨1, _⟩ => show win0_8.index t 1 * 2048 + 1 * (j 1).val = (j 1).val; omega
  | ⟨2, _⟩ => show win0_8.index t 2 * 512 + 1 * (j 2).val = (j 2).val; omega

/-- The scores' block at point `t` is sequence `t` of each predictor. -/
theorem emb9 (t : Fin cfg0.N) (j : S3x1x2048x1.Idx) :
    ((cfg0.win 9).blk t).view.emb j = ix4 (j 0) (⟨t.val, point_lt t⟩ : Fin 8) (j 2) (j 3) := by
  obtain ⟨-, -, i0, i1, i2, i3⟩ := index_row t
  have hj := (j 1).isLt
  change (j 1).val < 1 at hj
  funext a; apply Fin.ext
  match a with
  | ⟨0, _⟩ => show win0_9.index t 0 * 3 + 1 * (j 0).val = (j 0).val; omega
  | ⟨1, _⟩ => show win0_9.index t 1 * 1 + 1 * (j 1).val = t.val; omega
  | ⟨2, _⟩ => show win0_9.index t 2 * 2048 + 1 * (j 2).val = (j 2).val; omega
  | ⟨3, _⟩ => show win0_9.index t 3 * 1 + 1 * (j 3).val = (j 3).val; omega

variable {m c} {X : Fin 8 → ℕ → Fin 512 → ℝ} {w1 w2 : Fin 3 → Fin 512 → Fin 512 → Fin 3 → ℝ} {lw : Fin 3 → Fin 512 → ℝ}

/-- At point `t` the input blocks hold sequence `t` and the weights. -/
theorem holds (G : Given m c X w1 w2 lw) (t : Fin cfg0.N) :
    Holds (X ⟨t.val, point_lt t⟩) w1 w2 lw (iblk m c 0 t) (iblk m c 1 t) (iblk m c 2 t) (iblk m c 3 t) (iblk m c 4 t) (iblk m c 5 t)
      (iblk m c 6 t) (iblk m c 7 t) := by
  obtain ⟨e1, e2, e3, e4, e5, e6, e7⟩ := iblk_whole m c t
  obtain ⟨v1, v2, v3, v4, v5, v6⟩ := V_weights m c
  rw [e1, e2, e3, e4, e5, e6, e7, v1, v2, v3, v4, v5, v6, V_last]
  refine ⟨fun l f => ?_, stacked_val _ _ G.dur1, stacked_val _ _ G.pit1, stacked_val _ _ G.eng1, stacked_val _ _ G.dur2,
    stacked_val _ _ G.pit2, stacked_val _ _ G.eng2, fun p a => ?_⟩
  · exact (iblk_row m c t (ix3 0 l f)).trans (G.rows ⟨t.val, point_lt t⟩ l f)
  · pointwise
    fin_cases p
    · exact G.durl a
    · exact G.pitl a
    · exact G.engl a

/-- The outputs: the inputs, the second and the third predictor's scores added to every channel of their row. -/
def outputsR (X : Fin 8 → ℕ → Fin 512 → ℝ) (w1 w2 : Fin 3 → Fin 512 → Fin 512 → Fin 3 → ℝ) (lw : Fin 3 → Fin 512 → ℝ)
    (b : Fin 8) (l : ℕ) (f : Fin 512) : ℝ :=
  X b l f + (scoreR (X b) (w1 1) (w2 1) (lw 1) l + scoreR (X b) (w1 2) (w2 2) (lw 2) l)

/-- The outputs' block at point `t`. -/
theorem after8 (G : Given m c X w1 w2 lw) (t : Fin cfg0.N) (y : S1x2048x512.Idx) :
    (dats m 0 c).after 8 t y = ((outputsR X w1 w2 lw ⟨t.val, point_lt t⟩ (y 1).val (y 2) : ℝ) : EReal) := by
  rw [after0_8]
  have hy : y = ix3 0 (y 1) (y 2) := by
    funext a; match a with
    | ⟨0, _⟩ => exact Fin.ext (by have := (y 0).isLt; change (y 0).val < 1 at this; show (y 0).val = 0; omega)
    | ⟨1, _⟩ => rfl
    | ⟨2, _⟩ => rfl
  exact (congrArg (out0_8 _ _ _ _ _ _ _ _) hy).trans (out8_val (holds G t) (y 1) (y 2))

/-- The array of outputs: element `(b, l, f)`. -/
def outputsArr (X : Fin 8 → ℕ → Fin 512 → ℝ) (w1 w2 : Fin 3 → Fin 512 → Fin 512 → Fin 3 → ℝ) (lw : Fin 3 → Fin 512 → ℝ) :
    FVec Ideal S8x2048x512 .f32 := fun i => ((outputsR X w1 w2 lw (i 0) (i 1).val (i 2) : ℝ) : EReal)

/-- The array of outputs after the run. -/
theorem arr8 (G : Given m c X w1 w2 lw) : (dats m 0 c).arrAt 8 cfg0.N = outputsArr X w1 w2 lw := by
  refine (dats m 0 c).arrAt_eq_of_covers 8 (outputsArr X w1 w2 lw) (by decide +kernel) fun t hf y => ?_
  exact (after8 G t y).trans (congrArg (outputsArr X w1 w2 lw) (emb8 t y)).symm

/-- The array of scores: element `(p, b, l, 0)`. -/
def scoresArr (X : Fin 8 → ℕ → Fin 512 → ℝ) (w1 w2 : Fin 3 → Fin 512 → Fin 512 → Fin 3 → ℝ) (lw : Fin 3 → Fin 512 → ℝ) :
    FVec Ideal S3x8x2048x1 .f32 := fun i => ((scoreR (X (i 1)) (w1 (i 0)) (w2 (i 0)) (lw (i 0)) (i 2).val : ℝ) : EReal)

/-- The array of scores after the run. -/
theorem arr9 (G : Given m c X w1 w2 lw) : (dats m 0 c).arrAt 9 cfg0.N = scoresArr X w1 w2 lw := by
  refine (dats m 0 c).arrAt_eq_of_covers 9 (scoresArr X w1 w2 lw) (by decide +kernel) fun t hf y => ?_
  exact ((congrFun (after0_9 m c t) _).trans (out9_val (holds G t) y)).trans (congrArg (scoresArr X w1 w2 lw) (emb9 t y)).symm

end Cert.Adaptor

end
-- ==== Proof.KernelRun.lean ====
/- The kernel's run over the extended reals, its argument arrays real: the four results at the real formulas of Maths.lean,
   the arguments unchanged. -/
module

public import proofs.«01_k».proof.Proof.Arrays

@[expose] public section

set_option maxRecDepth 16384

noncomputable section

namespace Cert.Adaptor

open Cert.KernelIdeal Cert.KernelIdeal.Gen Idealize.ShloMosaic Idealize.ShloMosaic.TcCoe Idealize.SL.Sem
open Idealize.ShloMosaic.Pipeline (Dat)

variable {m : (ℓ : Loc nD τ sig) → Buf (Elt Ideal) ℓ} {c : Dev nD} (ρ : Dev nD → PrngReg)
variable {X : Fin 8 → ℕ → Fin 512 → ℝ} {w1 w2 : Fin 3 → Fin 512 → Fin 512 → Fin 3 → ℝ} {lw : Fin 3 → Fin 512 → ℝ}

/-- Predictor `p`'s scores: element `(b, l, 0)`. -/
def scoreArr (X : Fin 8 → ℕ → Fin 512 → ℝ) (w1 w2 : Fin 3 → Fin 512 → Fin 512 → Fin 3 → ℝ) (lw : Fin 3 → Fin 512 → ℝ) (p : Fin 3) :
    FVec Ideal S8x2048x1 .f32 := fun i => ((scoreR (X (i 0)) (w1 p) (w2 p) (lw p) (i 1).val : ℝ) : EReal)

/-- The array of scores as the operations after the launch find it. -/
theorem tail_arr (G : Given m c X w1 w2 lw) :
    Pipeline.withArrays (cfgs 0).spec c (V0 m c) (fun w => (dats m 0 c).arrAt w (cfgs 0).N) (Proc.devRef .tc main_v22_1) = scoresArr X w1 w2 lw :=
  (Pipeline.withArrays_arr spec0 (by decide) c (V0 m c) _ 9).trans (arr9 G)

/-- What the operations after the launch make of the scores' array. -/
theorem tail_ops (σ : Valuation τ sig (Elt Ideal)) :
    StableHlo.after hostOps1 σ (Proc.devRef .tc main_v24)
        = shapeCast S8x2048x1 (extractStridedSlice S1x8x2048x1 ![0, 0, 0, 0] (σ (Proc.devRef .tc main_v22_1)) slices_S3x8x2048x1_S1x8x2048x1_0_0_0_0) shapeCasts_S1x8x2048x1_S8x2048x1
      ∧ StableHlo.after hostOps1 σ (Proc.devRef .tc main_v26)
        = shapeCast S8x2048x1 (extractStridedSlice S1x8x2048x1 ![1, 0, 0, 0] (σ (Proc.devRef .tc main_v22_1)) slices_S3x8x2048x1_S1x8x2048x1_1_0_0_0) shapeCasts_S1x8x2048x1_S8x2048x1
      ∧ StableHlo.after hostOps1 σ (Proc.devRef .tc main_v28)
        = shapeCast S8x2048x1 (extractStridedSlice S1x8x2048x1 ![2, 0, 0, 0] (σ (Proc.devRef .tc main_v22_1)) slices_S3x8x2048x1_S1x8x2048x1_2_0_0_0) shapeCasts_S1x8x2048x1_S8x2048x1 := by
  refine ⟨?_, ?_, ?_⟩ <;> (after_results; rfl)

/-- One predictor's scores cut out of the array of all three. -/
theorem cut_val :
    shapeCast S8x2048x1 (extractStridedSlice S1x8x2048x1 ![0, 0, 0, 0] (scoresArr X w1 w2 lw) slices_S3x8x2048x1_S1x8x2048x1_0_0_0_0) shapeCasts_S1x8x2048x1_S8x2048x1 = scoreArr X w1 w2 lw 0
      ∧ shapeCast S8x2048x1 (extractStridedSlice S1x8x2048x1 ![1, 0, 0, 0] (scoresArr X w1 w2 lw) slices_S3x8x2048x1_S1x8x2048x1_1_0_0_0) shapeCasts_S1x8x2048x1_S8x2048x1 = scoreArr X w1 w2 lw 1
      ∧ shapeCast S8x2048x1 (extractStridedSlice S1x8x2048x1 ![2, 0, 0, 0] (scoresArr X w1 w2 lw) slices_S3x8x2048x1_S1x8x2048x1_2_0_0_0) shapeCasts_S1x8x2048x1_S8x2048x1 = scoreArr X w1 w2 lw 2 := by
  refine ⟨?_, ?_, ?_⟩ <;> (funext j; idx_vars j; pointwise; rfl)

/-- The three predictors' results after the run. -/
theorem tails (G : Given m c X w1 w2 lw) :
    Pipeline.afterTail₀ cfgs (dats m) 0 (V0 m) [hostOps1] c main_v24 = scoreArr X w1 w2 lw 0
      ∧ Pipeline.afterTail₀ cfgs (dats m) 0 (V0 m) [hostOps1] c main_v26 = scoreArr X w1 w2 lw 1
      ∧ Pipeline.afterTail₀ cfgs (dats m) 0 (V0 m) [hostOps1] c main_v28 = scoreArr X w1 w2 lw 2 := by
  have h := tail_arr G
  unfold Pipeline.afterTail₀
  generalize Pipeline.withArrays (cfgs 0).spec c (V0 m c) (fun w => (dats m 0 c).arrAt w (cfgs 0).N) = σ at h ⊢
  obtain ⟨t0, t1, t2⟩ := tail_ops σ
  obtain ⟨c0, c1, c2⟩ := cut_val (X := X) (w1 := w1) (w2 := w2) (lw := lw)
  rw [h] at t0 t1 t2
  exact ⟨t0.trans c0, t1.trans c1, t2.trans c2⟩

/-- The kernel's run: its four results. -/
theorem results (X : Dev nD → Fin 8 → ℕ → Fin 512 → ℝ) (w1 w2 : Dev nD → Fin 3 → Fin 512 → Fin 512 → Fin 3 → ℝ)
    (lw : Dev nD → Fin 3 → Fin 512 → ℝ) (G : ∀ c, Given m c (X c) (w1 c) (w2 c) (lw c)) :
    θ_run defs (onTc (τ := τ) (main (F := Ideal))) ⟨m, fun _ => 0, ρ⟩ (fun r => ∀ c : Dev nD,
      r.2.mem ((c.tc : Thread nD τ).loc main_v22_0) = outputsArr (X c) (w1 c) (w2 c) (lw c)
      ∧ r.2.mem ((c.tc : Thread nD τ).loc main_v24) = scoreArr (X c) (w1 c) (w2 c) (lw c) 0
      ∧ r.2.mem ((c.tc : Thread nD τ).loc main_v26) = scoreArr (X c) (w1 c) (w2 c) (lw c) 1
      ∧ r.2.mem ((c.tc : Thread nD τ).loc main_v28) = scoreArr (X c) (w1 c) (w2 c) (lw c) 2) :=
  (θ_run defs _ _).mono (fun r h c => ⟨((h c).1 8).trans (arr8 (G c)),
    ((h c).2 main_v24 (by decide)).trans (tails (G c)).1,
    ((h c).2 main_v26 (by decide)).trans (tails (G c)).2.1,
    ((h c).2 main_v28 (by decide)).trans (tails (G c)).2.2⟩) (run_main m ρ)

end Cert.Adaptor

end
-- ==== Proof.RefValues.lean ====
/- The reference's operations read at an index over the extended reals, its operands real: convolution, rectifier, layer
   normalisation and the last layer are the real formulas of Maths.lean. -/
module

public import proofs.«01_k».proof.Proof.Gen.ReferenceIdeal.Run
public import proofs.«01_k».proof.Proof.Maths

@[expose] public section

set_option maxRecDepth 16384

noncomputable section

namespace Cert.Adaptor.Ref

open Cert.ReferenceIdeal Cert.ReferenceIdeal.Gen Idealize.ShloMosaic Idealize.SL.Sem

section pieces

variable {F : FTy → Type} [FloatOps F]

/-- The rows with a row of zeros before the first and after the last. -/
def padded (x : FVec F S8x2048x512 .f32) : FVec F S8x2050x512 .f32 :=
  pad S8x2050x512 ![0, 1, 0] ![0, 1, 0] ![0, 0, 0] x (sitofp .f32 (constantI S_ 32 0#32)) pads_S8x2048x512_S8x2050x512_000_110_000 h_S_

/-- A vector of one number per channel, the same in every row. -/
def channels (b : FVec F S512 .f32) : FVec F S8x2048x512 .f32 :=
  broadcastInDim S8x2048x512 ![0, 1, 2] bcast_S1x1x512_S8x2048x512_0_1_2 (broadcastInDim S1x1x512 ![2] bcast_S512_S1x1x512_2 b)

/-- A convolution of padded rows with three taps, its bias and its rectifier. -/
def convolved (p : FVec F S8x2050x512 .f32) (w : FVec F S512x512x3 .f32) (b : FVec F S512 .f32) : FVec F S8x2048x512 .f32 :=
  maximumf (addf (addf (addf (addf (broadcastInDim S8x2048x512 ![] bcast_S_S8x2048x512 (constant S_ .f32 0x00000000#32))
    (Host.dotGeneral dot_S8x2048x512_S512x512_S8x2048x512_2_1_01_0_n_n none (extractStridedSlice S8x2048x512 ![0, 0, 0] p slices_S8x2050x512_S8x2048x512_0_0_0) (shapeCast _ (extractStridedSlice S512x512x1 ![0, 0, 0] w slices_S512x512x3_S512x512x1_0_0_0) shapeCasts_S512x512x1_S512x512)))
    (Host.dotGeneral dot_S8x2048x512_S512x512_S8x2048x512_2_1_01_0_n_n none (extractStridedSlice S8x2048x512 ![0, 1, 0] p slices_S8x2050x512_S8x2048x512_0_1_0) (shapeCast _ (extractStridedSlice S512x512x1 ![0, 0, 1] w slices_S512x512x3_S512x512x1_0_0_1) shapeCasts_S512x512x1_S512x512)))
    (Host.dotGeneral dot_S8x2048x512_S512x512_S8x2048x512_2_1_01_0_n_n none (extractStridedSlice S8x2048x512 ![0, 2, 0] p slices_S8x2050x512_S8x2048x512_0_2_0) (shapeCast _ (extractStridedSlice S512x512x1 ![0, 0, 2] w slices_S512x512x3_S512x512x1_0_0_2) shapeCasts_S512x512x1_S512x512)))
    (channels b))
    (broadcastInDim S8x2048x512 ![] bcast_S_S8x2048x512 (constant S_ .f32 0x00000000#32))

/-- The mean of each row. -/
def mean (h : FVec F S8x2048x512 .f32) : FVec F S8x2048x1 .f32 :=
  Host.divf (broadcastInDim S8x2048x1 ![0, 1] bcast_S8x2048_S8x2048x1_0_1 (Host.reduceAdd h (constant S_ .f32 0x00000000#32) reducesTo_S8x2048x512_S8x2048_d2 h_S_))
    (broadcastInDim S8x2048x1 ![] bcast_S_S8x2048x1 (constant S_ .f32 0x44000000#32))

/-- Each row less its mean. -/
def centred (h : FVec F S8x2048x512 .f32) : FVec F S8x2048x512 .f32 :=
  subf h (broadcastInDim S8x2048x512 ![0, 1, 2] bcast_S8x2048x1_S8x2048x512_0_1_2 (mean h))

/-- The layer normalisation of each row, with its gain and its shift. -/
def normed (h : FVec F S8x2048x512 .f32) (g be : FVec F S512 .f32) : FVec F S8x2048x512 .f32 :=
  addf (mulf (Host.divf (centred h) (broadcastInDim S8x2048x512 ![0, 1, 2] bcast_S8x2048x1_S8x2048x512_0_1_2
    (Host.sqrt (addf (mean (mulf (centred h) (centred h))) (broadcastInDim S8x2048x1 ![] bcast_S_S8x2048x1 (constant S_ .f32 0x3727C5AC#32))))))
    (channels g)) (channels be)

/-- The last layer. -/
def last (n : FVec F S8x2048x512 .f32) (lw : FVec F S1x512 .f32) (lb : FVec F S1 .f32) : FVec F S8x2048x1 .f32 :=
  addf (Host.dotGeneral dot_S8x2048x512_S512x1_S8x2048x1_2_0_01_1_n_n none n (transpose S512x1 [1, 0] lw transposes_S1x512_S512x1_1_0))
    (broadcastInDim S8x2048x1 ![0, 1, 2] bcast_S1x1x1_S8x2048x1_0_1_2 (broadcastInDim S1x1x1 ![2] bcast_S1_S1x1x1_2 lb))

/-- One predictor of the reference. -/
def predicted (x : FVec F S8x2048x512 .f32) (w1 : FVec F S512x512x3 .f32) (b1 g1 be1 : FVec F S512 .f32)
    (w2 : FVec F S512x512x3 .f32) (b2 g2 be2 : FVec F S512 .f32) (lw : FVec F S1x512 .f32) (lb : FVec F S1 .f32) : FVec F S8x2048x1 .f32 :=
  last (normed (convolved (padded (normed (convolved (padded x) w1 b1) g1 be1)) w2 b2) g2 be2) lw lb

end pieces

/-- The number the rows are padded with. -/
theorem zero_val : (FloatOps.sitofp .f32 0#32 : Ideal .f32) = ((0 : ℝ) : EReal) := by
  show (((0#32).toInt : ℝ) : EReal) = _
  simp

/-- The padded rows read at each of the three taps. -/
theorem padded_val (x : FVec Ideal S8x2048x512 .f32) (h : ℕ → Fin 512 → ℝ) (b : Fin 8)
    (H : ∀ (l : Fin 2048) (c : Fin 512), x (ix3 b l c) = (h l.val c : EReal)) (l : Fin 2048) (c : Fin 512) :
    padded x (ix3 b ⟨l.val, by omega⟩ c) = (prevR h l.val c : EReal) ∧ padded x (ix3 b ⟨1 + l.val, by omega⟩ c) = (h l.val c : EReal)
      ∧ padded x (ix3 b ⟨2 + l.val, by omega⟩ c) = (nextR h l.val c : EReal) := by
  refine ⟨?_, ?_, ?_⟩
  · pointwise [padded]
    unfold prevR
    by_cases h0 : l.val = 0
    · rw [dif_neg (by omega), if_pos h0, zero_val]
    · rw [dif_pos (by omega), if_neg h0, H]
  · pointwise [padded]
    exact H l c
  · pointwise [padded]
    unfold nextR
    by_cases h0 : l.val = 2047
    · rw [dif_neg (by omega), if_pos h0, zero_val]
    · rw [dif_pos (by omega), if_neg h0, H]
      congr 2
      show 2 + l.val - 1 = l.val + 1
      omega

/-- A convolution and its rectifier, its bias zero. -/
theorem convolved_val (p : FVec Ideal S8x2050x512 .f32) (b : Fin 8) (l : Fin 2048) (h0 h1 h2 : Fin 512 → ℝ)
    (H0 : ∀ c : Fin 512, p (ix3 b ⟨l.val, by omega⟩ c) = (h0 c : EReal))
    (H1 : ∀ c : Fin 512, p (ix3 b ⟨1 + l.val, by omega⟩ c) = (h1 c : EReal))
    (H2 : ∀ c : Fin 512, p (ix3 b ⟨2 + l.val, by omega⟩ c) = (h2 c : EReal))
    (w : FVec Ideal S512x512x3 .f32) (r : Fin 512 → Fin 512 → Fin 3 → ℝ) (Hw : ∀ (f c : Fin 512) (k : Fin 3), w (ix3 f c k) = (r f c k : EReal))
    (bias : FVec Ideal S512 .f32) (Hb : ∀ f, bias (ix1 f) = 0) (f : Fin 512) :
    convolved p w bias (ix3 b l f) = ((max ((∑ c, h0 c * r f c 0) + (∑ c, h1 c * r f c 1) + ∑ c, h2 c * r f c 2) 0 : ℝ) : EReal) := by
  pointwise [convolved, channels]
  simp only [H0, H1, H2, Hw, Hb, ← EReal.coe_mul, coe_sum]
  rw [add_zero, ← EReal.coe_add, ← EReal.coe_add, ← EReal.coe_zero, coe_max]

/-- The convolution of rows `h`, its rectifier, its bias zero. -/
theorem conv_val (x : FVec Ideal S8x2048x512 .f32) (h : ℕ → Fin 512 → ℝ) (b : Fin 8)
    (H : ∀ (l : Fin 2048) (c : Fin 512), x (ix3 b l c) = (h l.val c : EReal))
    (w : FVec Ideal S512x512x3 .f32) (r : Fin 512 → Fin 512 → Fin 3 → ℝ) (Hw : ∀ (f c : Fin 512) (k : Fin 3), w (ix3 f c k) = (r f c k : EReal))
    (bias : FVec Ideal S512 .f32) (Hb : ∀ f, bias (ix1 f) = 0) (l : Fin 2048) (f : Fin 512) :
    convolved (padded x) w bias (ix3 b l f) = ((max (convR h r l.val f) 0 : ℝ) : EReal) :=
  convolved_val (padded x) b l (prevR h l.val) (h l.val) (nextR h l.val) (fun c => (padded_val x h b H l c).1)
    (fun c => (padded_val x h b H l c).2.1) (fun c => (padded_val x h b H l c).2.2) w r Hw bias Hb f

/-- A row's mean. -/
theorem mean_val (h : FVec Ideal S8x2048x512 .f32) (b : Fin 8) (l : Fin 2048) (v : Fin 512 → ℝ)
    (H : ∀ f, h (ix3 b l f) = (v f : EReal)) : mean h (ix3 b l 0) = (meanR v : EReal) := by
  pointwise [mean]
  simp only [H, coe_sum, ofBits_512]
  try rw [zero_add]
  rw [coe_div (by norm_num)]
  rfl

/-- A row less its mean. -/
theorem centred_val (h : FVec Ideal S8x2048x512 .f32) (b : Fin 8) (l : Fin 2048) (v : Fin 512 → ℝ)
    (H : ∀ f, h (ix3 b l f) = (v f : EReal)) (f : Fin 512) : centred h (ix3 b l f) = ((v f - meanR v : ℝ) : EReal) := by
  have h1 := mean_val h b l v H
  pointwise [centred]
  rw [h1, H, ← EReal.coe_sub]

/-- A normalised row, the gain one and the shift zero. -/
theorem normed_val (h : FVec Ideal S8x2048x512 .f32) (b : Fin 8) (l : Fin 2048) (v : Fin 512 → ℝ)
    (H : ∀ f, h (ix3 b l f) = (v f : EReal)) (g be : FVec Ideal S512 .f32) (Hg : ∀ f, g (ix1 f) = 1) (Hb : ∀ f, be (ix1 f) = 0)
    (f : Fin 512) : normed h g be (ix3 b l f) = (normR v f : EReal) := by
  have h1 := centred_val h b l v H
  have h2 := mean_val (mulf (centred h) (centred h)) b l (fun f => (v f - meanR v) * (v f - meanR v)) (fun f => by
    pointwise
    rw [h1, ← EReal.coe_mul])
  change _ = ((varR v : ℝ) : EReal) at h2
  pointwise [normed, channels]
  rw [h1, h2, ofBits_eps, Hg, Hb, mul_one, add_zero, ← EReal.coe_add, coe_sqrt (var_eps_pos v),
    coe_div (Real.sqrt_pos.mpr (var_eps_pos v)).ne']
  rfl

/-- The last layer, its bias zero. -/
theorem last_val (n : FVec Ideal S8x2048x512 .f32) (b : Fin 8) (l : Fin 2048) (v : Fin 512 → ℝ)
    (H : ∀ f, n (ix3 b l f) = (v f : EReal)) (lw : FVec Ideal S1x512 .f32) (w : Fin 512 → ℝ) (Hw : ∀ c, lw (ix2 0 c) = (w c : EReal))
    (lb : FVec Ideal S1 .f32) (Hb : lb (ix1 0) = 0) : last n lw lb (ix3 b l 0) = ((∑ f, v f * w f : ℝ) : EReal) := by
  pointwise [last]
  simp only [H, Hw, Hb, ← EReal.coe_mul, coe_sum, add_zero]

/-- One predictor of the reference, its biases and shifts zero and its gains one. -/
theorem predicted_val (x : FVec Ideal S8x2048x512 .f32) (h : ℕ → Fin 512 → ℝ) (b : Fin 8)
    (H : ∀ (l : Fin 2048) (c : Fin 512), x (ix3 b l c) = (h l.val c : EReal))
    (w1 w2 : FVec Ideal S512x512x3 .f32) (r1 r2 : Fin 512 → Fin 512 → Fin 3 → ℝ)
    (H1 : ∀ (f c : Fin 512) (k : Fin 3), w1 (ix3 f c k) = (r1 f c k : EReal))
    (H2 : ∀ (f c : Fin 512) (k : Fin 3), w2 (ix3 f c k) = (r2 f c k : EReal))
    (lw : FVec Ideal S1x512 .f32) (w : Fin 512 → ℝ) (Hw : ∀ c, lw (ix2 0 c) = (w c : EReal))
    (b1 g1 be1 b2 g2 be2 : FVec Ideal S512 .f32) (lb : FVec Ideal S1 .f32)
    (hb1 : ∀ f, b1 (ix1 f) = 0) (hg1 : ∀ f, g1 (ix1 f) = 1) (hbe1 : ∀ f, be1 (ix1 f) = 0)
    (hb2 : ∀ f, b2 (ix1 f) = 0) (hg2 : ∀ f, g2 (ix1 f) = 1) (hbe2 : ∀ f, be2 (ix1 f) = 0) (hlb : lb (ix1 0) = 0) (l : Fin 2048) :
    predicted x w1 b1 g1 be1 w2 b2 g2 be2 lw lb (ix3 b l 0) = (scoreR h r1 r2 w l.val : EReal) := by
  have e1 : ∀ (l : Fin 2048) (c : Fin 512), normed (convolved (padded x) w1 b1) g1 be1 (ix3 b l c) = (layerR h r1 l.val c : EReal) :=
    fun l c => normed_val _ b l _ (conv_val x h b H w1 r1 H1 b1 hb1 l) g1 be1 hg1 hbe1 c
  exact last_val _ b l _ (normed_val _ b l _ (conv_val _ (layerR h r1) b e1 w2 r2 H2 b2 hb2 l) g2 be2 hg2 hbe2) lw w Hw lb hlb

end Cert.Adaptor.Ref

end
-- ==== Proof.RefRun.lean ====
/- The reference's run over the extended reals, its argument arrays real, its biases and shifts zero and its gains one: the
   four results at the real formulas of Maths.lean, the arguments unchanged. -/
module

public import proofs.«01_k».proof.Proof.RefValues

@[expose] public section

set_option maxRecDepth 16384

noncomputable section

namespace Cert.Adaptor.Ref

open Cert.ReferenceIdeal Cert.ReferenceIdeal.Gen Idealize.ShloMosaic Idealize.ShloMosaic.TcCoe Idealize.SL.Sem Idealize.ShloMosaic.StableHlo

section terms

variable {F : FTy → Type} [FloatOps F] (m : (ℓ : Loc nD τ sig) → Buf (Elt F) ℓ) (c : Dev nD)

/-- The durations' term. -/
abbrev durTerm : FVec F S8x2048x1 .f32 :=
  predicted (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The pitches' term. -/
abbrev pitTerm : FVec F S8x2048x1 .f32 :=
  predicted (m ((c : Thread nD τ).loc main_arg0)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20))

/-- The energies' term. -/
abbrev engTerm : FVec F S8x2048x1 .f32 :=
  predicted (m ((c : Thread nD τ).loc main_arg0)) (m ((c : Thread nD τ).loc main_arg21)) (m ((c : Thread nD τ).loc main_arg22))
    (m ((c : Thread nD τ).loc main_arg23)) (m ((c : Thread nD τ).loc main_arg24)) (m ((c : Thread nD τ).loc main_arg25))
    (m ((c : Thread nD τ).loc main_arg26)) (m ((c : Thread nD τ).loc main_arg27)) (m ((c : Thread nD τ).loc main_arg28))
    (m ((c : Thread nD τ).loc main_arg29)) (m ((c : Thread nD τ).loc main_arg30))

/-- The outputs' term: the inputs, the pitches and then the energies added to every channel of their row. -/
def outTerm (x : FVec F S8x2048x512 .f32) (p e : FVec F S8x2048x1 .f32) : FVec F S8x2048x512 .f32 :=
  addf (addf x (broadcastInDim S8x2048x512 ![0, 1, 2] bcast_S8x2048x1_S8x2048x512_0_1_2 p))
    (broadcastInDim S8x2048x512 ![0, 1, 2] bcast_S8x2048x1_S8x2048x512_0_1_2 e)

end terms

/-- The reference's run: its four results as terms of the arguments. -/
theorem terms_run {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v288) = outTerm (m ((c : Thread nD τ).loc main_arg0)) (pitTerm m c) (engTerm m c)
      ∧ r.2.mem ((c.tc : Thread nD τ).loc main_v94) = durTerm m c
      ∧ r.2.mem ((c.tc : Thread nD τ).loc main_v189) = pitTerm m c
      ∧ r.2.mem ((c.tc : Thread nD τ).loc main_v286) = engTerm m c) :=
  (θ_run defs _ _).mono (fun r h c => ⟨(h c).1, (h c).2.1, (h c).2.2.1, (h c).2.2.2.1⟩) (Cert.ReferenceIdeal.Value.run m ρ)

end Cert.Adaptor.Ref

end
-- ==== Proof.Precondition.lean ====
/- The precondition, read: which arrays it makes real, which zero and which one. -/
module

public import proofs.«01_k».proof.Pre_untrained_norms
public import proofs.«01_k».proof.Proof.Gen.Pre_untrained_norms
public import Idealize.ShloMosaic.Lib.Pointwise
public import Idealize.ShloMosaic.Lib.Affine
public import Idealize.ShloMosaic.Lib.WordCmp

@[expose] public section

set_option maxRecDepth 16384

noncomputable section

namespace Cert.Adaptor

open Cert.Pre_untrained_norms Idealize.ShloMosaic Idealize.ShloMosaic.StableHlo

/-- The pattern of the positive infinity. -/
theorem ofBits_inf : Ideal.ofBits .f32 0x7F800000#32 = ⊤ := by simp [Ideal.ofBits, Ideal.ieee]

/-- The pattern of one. -/
theorem ofBits_one : Ideal.ofBits .f32 0x3F800000#32 = 1 := by
  simp [Ideal.ofBits, Ideal.ieee]
  rw [← EReal.coe_mul]
  norm_num

/-- An array's elements are all real. -/
def Finite {s : Shape} (a : FVec Ideal s .f32) : Prop := ∀ i, a i ≠ ⊥ ∧ a i ≠ ⊤

/-- An element whose magnitude tests smaller than the infinity is real. -/
theorem finite_of_test (x : Ideal .f32)
    (h : FloatOps.cmpf .olt (FloatOps.hostAbsf x) (FloatOps.ofBits (F := Ideal) .f32 0x7F800000#32) = 1#1) : x ≠ ⊥ ∧ x ≠ ⊤ := by
  change Ideal.cmp .olt (max (x : EReal) (-(x : EReal))) (Ideal.ofBits .f32 0x7F800000#32) = 1#1 at h
  rw [ofBits_inf, Ideal.cmp_olt] at h
  constructor
  · rintro rfl
    simp at h
  · rintro rfl
    simp at h

/-- An element that tests equal to the zero is zero. -/
theorem zero_of_test (x : Ideal .f32) (h : FloatOps.cmpf .oeq x (FloatOps.ofBits (F := Ideal) .f32 0x00000000#32) = 1#1) : x = 0 := by
  change Ideal.cmp .oeq x (Ideal.ofBits .f32 0x00000000#32) = 1#1 at h
  rw [Ideal.cmp_oeq, Ideal.ofBits_zero] at h
  by_contra hn
  simp [hn] at h

/-- An element that tests equal to the one is one. -/
theorem one_of_test (x : Ideal .f32) (h : FloatOps.cmpf .oeq x (FloatOps.ofBits (F := Ideal) .f32 0x3F800000#32) = 1#1) : x = 1 := by
  change Ideal.cmp .oeq x (Ideal.ofBits .f32 0x3F800000#32) = 1#1 at h
  rw [Ideal.cmp_oeq, ofBits_one] at h
  by_contra hn
  simp [hn] at h

/-- The precondition makes the inputs real. -/
theorem pre_rows
    (a0 : FVec Ideal S8x2048x512 .f32) (a1 : FVec Ideal S512x512x3 .f32) (a2 a3 a4 : FVec Ideal S512 .f32) (a5 : FVec Ideal
    S512x512x3 .f32) (a6 a7 a8 : FVec Ideal S512 .f32) (a9 : FVec Ideal S1x512 .f32) (a10 : FVec Ideal S1 .f32) (a11 : FVec
    Ideal S512x512x3 .f32) (a12 a13 a14 : FVec Ideal S512 .f32) (a15 : FVec Ideal S512x512x3 .f32) (a16 a17 a18 : FVec Ideal
    S512 .f32) (a19 : FVec Ideal S1x512 .f32) (a20 : FVec Ideal S1 .f32) (a21 : FVec Ideal S512x512x3 .f32) (a22 a23 a24 :
    FVec Ideal S512 .f32) (a25 : FVec Ideal S512x512x3 .f32) (a26 a27 a28 : FVec Ideal S512 .f32) (a29 : FVec Ideal S1x512
    .f32) (a30 : FVec Ideal S1 .f32)
    (h : (fn (F := Ideal) a0 a1 a2 a3 a4 a5 a6 a7 a8 a9 a10 a11 a12 a13 a14 a15 a16 a17 a18 a19 a20 a21 a22 a23 a24 a25 a26 a27 a28 a29 a30).1 = fun _ => 1#1) :
    Finite a0 := by
  have t := fun i => congrFun h i
  simp only [fn, fn_part1, fn_part2, fn_part3, fn_part4, fn_part5, WordCmp.andi_at, IntOp.andi_eq_one] at t
  exact fun i => finite_of_test _ (t i)

/-- The precondition makes the six convolution weights real. -/
theorem pre_weights
    (a0 : FVec Ideal S8x2048x512 .f32) (a1 : FVec Ideal S512x512x3 .f32) (a2 a3 a4 : FVec Ideal S512 .f32) (a5 : FVec Ideal
    S512x512x3 .f32) (a6 a7 a8 : FVec Ideal S512 .f32) (a9 : FVec Ideal S1x512 .f32) (a10 : FVec Ideal S1 .f32) (a11 : FVec
    Ideal S512x512x3 .f32) (a12 a13 a14 : FVec Ideal S512 .f32) (a15 : FVec Ideal S512x512x3 .f32) (a16 a17 a18 : FVec Ideal
    S512 .f32) (a19 : FVec Ideal S1x512 .f32) (a20 : FVec Ideal S1 .f32) (a21 : FVec Ideal S512x512x3 .f32) (a22 a23 a24 :
    FVec Ideal S512 .f32) (a25 : FVec Ideal S512x512x3 .f32) (a26 a27 a28 : FVec Ideal S512 .f32) (a29 : FVec Ideal S1x512
    .f32) (a30 : FVec Ideal S1 .f32)
    (h : (fn (F := Ideal) a0 a1 a2 a3 a4 a5 a6 a7 a8 a9 a10 a11 a12 a13 a14 a15 a16 a17 a18 a19 a20 a21 a22 a23 a24 a25 a26 a27 a28 a29 a30).2.1 = fun _ => 1#1) :
    Finite a1 ∧ Finite a5 ∧ Finite a11 ∧ Finite a15 ∧ Finite a21 ∧ Finite a25 := by
  have t := fun i => congrFun h i
  simp only [fn, fn_part1, fn_part2, fn_part3, fn_part4, fn_part5, WordCmp.andi_at, IntOp.andi_eq_one] at t
  exact ⟨fun i => finite_of_test _ (t i).1.1.1.1.1, fun i => finite_of_test _ (t i).1.1.1.1.2, fun i => finite_of_test _ (t i).1.1.1.2, fun i => finite_of_test _ (t i).1.1.2, fun i => finite_of_test _ (t i).1.2, fun i => finite_of_test _ (t i).2⟩

/-- The precondition makes every convolution bias and every normalisation's shift zero, and every gain one. -/
theorem pre_norms
    (a0 : FVec Ideal S8x2048x512 .f32) (a1 : FVec Ideal S512x512x3 .f32) (a2 a3 a4 : FVec Ideal S512 .f32) (a5 : FVec Ideal
    S512x512x3 .f32) (a6 a7 a8 : FVec Ideal S512 .f32) (a9 : FVec Ideal S1x512 .f32) (a10 : FVec Ideal S1 .f32) (a11 : FVec
    Ideal S512x512x3 .f32) (a12 a13 a14 : FVec Ideal S512 .f32) (a15 : FVec Ideal S512x512x3 .f32) (a16 a17 a18 : FVec Ideal
    S512 .f32) (a19 : FVec Ideal S1x512 .f32) (a20 : FVec Ideal S1 .f32) (a21 : FVec Ideal S512x512x3 .f32) (a22 a23 a24 :
    FVec Ideal S512 .f32) (a25 : FVec Ideal S512x512x3 .f32) (a26 a27 a28 : FVec Ideal S512 .f32) (a29 : FVec Ideal S1x512
    .f32) (a30 : FVec Ideal S1 .f32)
    (h : (fn (F := Ideal) a0 a1 a2 a3 a4 a5 a6 a7 a8 a9 a10 a11 a12 a13 a14 a15 a16 a17 a18 a19 a20 a21 a22 a23 a24 a25 a26 a27 a28 a29 a30).2.2.1 = fun _ => 1#1) :
    (∀ i, a2 i = 0) ∧ (∀ i, a3 i = 1) ∧ (∀ i, a4 i = 0) ∧ (∀ i, a6 i = 0) ∧ (∀ i, a7 i = 1) ∧ (∀ i, a8 i = 0) ∧
      (∀ i, a12 i = 0) ∧ (∀ i, a13 i = 1) ∧ (∀ i, a14 i = 0) ∧ (∀ i, a16 i = 0) ∧ (∀ i, a17 i = 1) ∧ (∀ i, a18 i = 0) ∧
      (∀ i, a22 i = 0) ∧ (∀ i, a23 i = 1) ∧ (∀ i, a24 i = 0) ∧ (∀ i, a26 i = 0) ∧ (∀ i, a27 i = 1) ∧ (∀ i, a28 i = 0) := by
  have t := fun i => congrFun h i
  simp only [fn, fn_part1, fn_part2, fn_part3, fn_part4, fn_part5, WordCmp.andi_at, IntOp.andi_eq_one] at t
  exact ⟨fun i => zero_of_test _ (t i).1.1.1.1.1.1.1.1.1.1.1.1.1.1.1.1.1, fun i => one_of_test _ (t i).1.1.1.1.1.1.1.1.1.1.1.1.1.1.1.1.2, fun i => zero_of_test _ (t i).1.1.1.1.1.1.1.1.1.1.1.1.1.1.1.2, fun i => zero_of_test _ (t i).1.1.1.1.1.1.1.1.1.1.1.1.1.1.2, fun i => one_of_test _ (t i).1.1.1.1.1.1.1.1.1.1.1.1.1.2, fun i => zero_of_test _ (t i).1.1.1.1.1.1.1.1.1.1.1.1.2, fun i => zero_of_test _ (t i).1.1.1.1.1.1.1.1.1.1.1.2, fun i => one_of_test _ (t i).1.1.1.1.1.1.1.1.1.1.2, fun i => zero_of_test _ (t i).1.1.1.1.1.1.1.1.1.2, fun i => zero_of_test _ (t i).1.1.1.1.1.1.1.1.2, fun i => one_of_test _ (t i).1.1.1.1.1.1.1.2, fun i => zero_of_test _ (t i).1.1.1.1.1.1.2, fun i => zero_of_test _ (t i).1.1.1.1.1.2, fun i => one_of_test _ (t i).1.1.1.1.2, fun i => zero_of_test _ (t i).1.1.1.2, fun i => zero_of_test _ (t i).1.1.2, fun i => one_of_test _ (t i).1.2, fun i => zero_of_test _ (t i).2⟩

/-- The precondition makes the three head weights real. -/
theorem pre_heads
    (a0 : FVec Ideal S8x2048x512 .f32) (a1 : FVec Ideal S512x512x3 .f32) (a2 a3 a4 : FVec Ideal S512 .f32) (a5 : FVec Ideal
    S512x512x3 .f32) (a6 a7 a8 : FVec Ideal S512 .f32) (a9 : FVec Ideal S1x512 .f32) (a10 : FVec Ideal S1 .f32) (a11 : FVec
    Ideal S512x512x3 .f32) (a12 a13 a14 : FVec Ideal S512 .f32) (a15 : FVec Ideal S512x512x3 .f32) (a16 a17 a18 : FVec Ideal
    S512 .f32) (a19 : FVec Ideal S1x512 .f32) (a20 : FVec Ideal S1 .f32) (a21 : FVec Ideal S512x512x3 .f32) (a22 a23 a24 :
    FVec Ideal S512 .f32) (a25 : FVec Ideal S512x512x3 .f32) (a26 a27 a28 : FVec Ideal S512 .f32) (a29 : FVec Ideal S1x512
    .f32) (a30 : FVec Ideal S1 .f32)
    (h : (fn (F := Ideal) a0 a1 a2 a3 a4 a5 a6 a7 a8 a9 a10 a11 a12 a13 a14 a15 a16 a17 a18 a19 a20 a21 a22 a23 a24 a25 a26 a27 a28 a29 a30).2.2.2.1 = fun _ => 1#1) :
    Finite a9 ∧ Finite a19 ∧ Finite a29 := by
  have t := fun i => congrFun h i
  simp only [fn, fn_part1, fn_part2, fn_part3, fn_part4, fn_part5, WordCmp.andi_at, IntOp.andi_eq_one] at t
  exact ⟨fun i => finite_of_test _ (t i).1.1, fun i => finite_of_test _ (t i).1.2, fun i => finite_of_test _ (t i).2⟩

/-- The precondition makes the three head biases zero. -/
theorem pre_biases
    (a0 : FVec Ideal S8x2048x512 .f32) (a1 : FVec Ideal S512x512x3 .f32) (a2 a3 a4 : FVec Ideal S512 .f32) (a5 : FVec Ideal
    S512x512x3 .f32) (a6 a7 a8 : FVec Ideal S512 .f32) (a9 : FVec Ideal S1x512 .f32) (a10 : FVec Ideal S1 .f32) (a11 : FVec
    Ideal S512x512x3 .f32) (a12 a13 a14 : FVec Ideal S512 .f32) (a15 : FVec Ideal S512x512x3 .f32) (a16 a17 a18 : FVec Ideal
    S512 .f32) (a19 : FVec Ideal S1x512 .f32) (a20 : FVec Ideal S1 .f32) (a21 : FVec Ideal S512x512x3 .f32) (a22 a23 a24 :
    FVec Ideal S512 .f32) (a25 : FVec Ideal S512x512x3 .f32) (a26 a27 a28 : FVec Ideal S512 .f32) (a29 : FVec Ideal S1x512
    .f32) (a30 : FVec Ideal S1 .f32)
    (h : (fn (F := Ideal) a0 a1 a2 a3 a4 a5 a6 a7 a8 a9 a10 a11 a12 a13 a14 a15 a16 a17 a18 a19 a20 a21 a22 a23 a24 a25 a26 a27 a28 a29 a30).2.2.2.2 = fun _ => 1#1) :
    (∀ i, a10 i = 0) ∧ (∀ i, a20 i = 0) ∧ (∀ i, a30 i = 0) := by
  have t := fun i => congrFun h i
  simp only [fn, fn_part1, fn_part2, fn_part3, fn_part4, fn_part5, WordCmp.andi_at, IntOp.andi_eq_one] at t
  exact ⟨fun i => zero_of_test _ (t i).1.1, fun i => zero_of_test _ (t i).1.2, fun i => zero_of_test _ (t i).2⟩

end Cert.Adaptor

end
-- ==== Proof.Agree.lean ====
/- Both programs from inputs that satisfy the precondition: the real arrays they read, and the reference's four results
   equal to the kernel's. -/
module

public import proofs.«01_k».proof.Defs
public import proofs.«01_k».proof.Proof.KernelRun
public import proofs.«01_k».proof.Proof.RefRun
public import proofs.«01_k».proof.Proof.Precondition

@[expose] public section

set_option maxRecDepth 16384

noncomputable section

namespace Cert.Adaptor

open Idealize.ShloMosaic Idealize.ShloMosaic.TcCoe Idealize.ShloMosaic.StableHlo Idealize.SL.Sem

/-- A real element is the number it holds. -/
theorem finite_coe {s : Shape} {a : FVec Ideal s .f32} (h : Finite a) (i : s.Idx) :
    a i = (((a i : EReal).toReal : ℝ) : EReal) := (EReal.coe_toReal (h i).2 (h i).1).symm

section reals

open Cert.KernelIdeal Cert.KernelIdeal.Gen

variable (m : (ℓ : Loc nD τ sig) → Buf (Elt Ideal) ℓ) (c : Dev nD)

/-- The inputs' numbers, by batch, position and channel; past the last position they are never read. -/
def rowsOf (b : Fin 8) (l : ℕ) (f : Fin 512) : ℝ :=
  EReal.toReal (m ((c : Thread nD τ).loc main_arg0) (ix3 b ⟨l % 2048, Nat.mod_lt _ (by decide)⟩ f))

/-- The numbers of the three predictors' first weights. -/
def firstOf (p : Fin 3) (f a : Fin 512) (k : Fin 3) : ℝ :=
  match p with
  | 0 => EReal.toReal (m ((c : Thread nD τ).loc main_arg1) (ix3 f a k))
  | 1 => EReal.toReal (m ((c : Thread nD τ).loc main_arg11) (ix3 f a k))
  | 2 => EReal.toReal (m ((c : Thread nD τ).loc main_arg21) (ix3 f a k))

/-- The numbers of the three predictors' second weights. -/
def secondOf (p : Fin 3) (f a : Fin 512) (k : Fin 3) : ℝ :=
  match p with
  | 0 => EReal.toReal (m ((c : Thread nD τ).loc main_arg5) (ix3 f a k))
  | 1 => EReal.toReal (m ((c : Thread nD τ).loc main_arg15) (ix3 f a k))
  | 2 => EReal.toReal (m ((c : Thread nD τ).loc main_arg25) (ix3 f a k))

/-- The numbers of the three predictors' head weights. -/
def headOf (p : Fin 3) (a : Fin 512) : ℝ :=
  match p with
  | 0 => EReal.toReal (m ((c : Thread nD τ).loc main_arg9) (ix2 0 a))
  | 1 => EReal.toReal (m ((c : Thread nD τ).loc main_arg19) (ix2 0 a))
  | 2 => EReal.toReal (m ((c : Thread nD τ).loc main_arg29) (ix2 0 a))

/-- Under the precondition the arguments hold those numbers. -/
theorem given (h : Cert.Pre_KernelIdeal_untrained_norms m) :
    Given m c (rowsOf m c) (firstOf m c) (secondOf m c) (headOf m c) := by
  have hr := pre_rows _ _ _ _ _ _ _ _ _ _ _ _ _ _ _ _ _ _ _ _ _ _ _ _ _ _ _ _ _ _ _ (h c).1
  obtain ⟨d1, d2, p1, p2, e1, e2⟩ := pre_weights _ _ _ _ _ _ _ _ _ _ _ _ _ _ _ _ _ _ _ _ _ _ _ _ _ _ _ _ _ _ _ (h c).2.1
  obtain ⟨dl, pl, el⟩ := pre_heads _ _ _ _ _ _ _ _ _ _ _ _ _ _ _ _ _ _ _ _ _ _ _ _ _ _ _ _ _ _ _ (h c).2.2.2.1
  refine ⟨fun b l f => ?_, fun f a k => finite_coe d1 _, fun f a k => finite_coe p1 _, fun f a k => finite_coe e1 _,
    fun f a k => finite_coe d2 _, fun f a k => finite_coe p2 _, fun f a k => finite_coe e2 _,
    fun a => finite_coe dl _, fun a => finite_coe pl _, fun a => finite_coe el _⟩
  rw [rowsOf]
  have e : (⟨l.val % 2048, Nat.mod_lt _ (by decide)⟩ : Fin 2048) = l := Fin.ext (Nat.mod_eq_of_lt l.isLt)
  rw [e]
  exact finite_coe hr _

end reals

/-- The reference's predictor, its arguments real, its biases and shifts zero and its gains one, is the array of the
    real predictor's scores. -/
theorem predicted_arr (X : Fin 8 → ℕ → Fin 512 → ℝ) (w1 w2 : Fin 3 → Fin 512 → Fin 512 → Fin 3 → ℝ) (lw : Fin 3 → Fin 512 → ℝ)
    (p : Fin 3) (x : FVec Ideal Cert.ReferenceIdeal.S8x2048x512 .f32)
    (H : ∀ (b : Fin 8) (l : Fin 2048) (f : Fin 512), x (ix3 b l f) = (X b l.val f : EReal))
    (u1 u2 : FVec Ideal Cert.ReferenceIdeal.S512x512x3 .f32)
    (H1 : ∀ (f a : Fin 512) (k : Fin 3), u1 (ix3 f a k) = (w1 p f a k : EReal))
    (H2 : ∀ (f a : Fin 512) (k : Fin 3), u2 (ix3 f a k) = (w2 p f a k : EReal))
    (v : FVec Ideal Cert.ReferenceIdeal.S1x512 .f32) (Hv : ∀ a, v (ix2 0 a) = (lw p a : EReal))
    (b1 g1 be1 b2 g2 be2 : FVec Ideal Cert.ReferenceIdeal.S512 .f32) (lb : FVec Ideal Cert.ReferenceIdeal.S1 .f32)
    (hb1 : ∀ i, b1 i = 0) (hg1 : ∀ i, g1 i = 1) (hbe1 : ∀ i, be1 i = 0)
    (hb2 : ∀ i, b2 i = 0) (hg2 : ∀ i, g2 i = 1) (hbe2 : ∀ i, be2 i = 0) (hlb : ∀ i, lb i = 0) :
    Ref.predicted x u1 b1 g1 be1 u2 b2 g2 be2 v lb = scoreArr X w1 w2 lw p := by
  funext j
  obtain ⟨b, l, z, rfl⟩ : ∃ (b : Fin 8) (l : Fin 2048) (z : Fin 1), j = ix3 b l z := ⟨j 0, j 1, j 2, ValueIdx.eq_ix3 j⟩
  obtain rfl : z = 0 := Subsingleton.elim _ _
  exact Ref.predicted_val x (X b) b (H b) u1 u2 (w1 p) (w2 p) H1 H2 v (lw p) Hv b1 g1 be1 b2 g2 be2 lb (fun f => hb1 _)
    (fun f => hg1 _) (fun f => hbe1 _) (fun f => hb2 _) (fun f => hg2 _) (fun f => hbe2 _) (hlb _) l

/-- The reference's outputs term is the array of the real outputs. -/
theorem outputs_arr (X : Fin 8 → ℕ → Fin 512 → ℝ) (w1 w2 : Fin 3 → Fin 512 → Fin 512 → Fin 3 → ℝ) (lw : Fin 3 → Fin 512 → ℝ)
    (x : FVec Ideal Cert.ReferenceIdeal.S8x2048x512 .f32)
    (H : ∀ (b : Fin 8) (l : Fin 2048) (f : Fin 512), x (ix3 b l f) = (X b l.val f : EReal)) :
    Ref.outTerm x (scoreArr X w1 w2 lw 1) (scoreArr X w1 w2 lw 2) = outputsArr X w1 w2 lw := by
  funext j
  obtain ⟨b, l, f, rfl⟩ : ∃ (b : Fin 8) (l : Fin 2048) (f : Fin 512), j = ix3 b l f := ⟨j 0, j 1, j 2, ValueIdx.eq_ix3 j⟩
  have e : Ref.outTerm x (scoreArr X w1 w2 lw 1) (scoreArr X w1 w2 lw 2) (ix3 b l f)
      = x (ix3 b l f) + scoreArr X w1 w2 lw 1 (ix3 b l 0) + scoreArr X w1 w2 lw 2 (ix3 b l 0) := by
    pointwise [Ref.outTerm]
  rw [e, H]
  show ((X b l.val f : ℝ) : EReal) + ((scoreR (X b) (w1 1) (w2 1) (lw 1) l.val : ℝ) : EReal)
    + ((scoreR (X b) (w1 2) (w2 2) (lw 2) l.val : ℝ) : EReal) = ((outputsR X w1 w2 lw b l.val f : ℝ) : EReal)
  rw [outputsR, ← EReal.coe_add, ← EReal.coe_add, add_assoc]

section agreement

/-- The two programs' arguments are the same arrays. -/
abbrev Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal_untrained_norms m) (hag : ∀ c, Same m m' c) (c : Dev Cert.KernelIdeal.nD)

include hpre hag

/-- The durations of the reference are the kernel's. -/
theorem durations_agree : Ref.durTerm m' c = scoreArr (rowsOf m c) (firstOf m c) (secondOf m c) (headOf m c) 0 := by
  have G := given m c hpre
  obtain ⟨db1, dg1, ds1, db2, dg2, ds2, pb1, pg1, ps1, pb2, pg2, ps2, eb1, eg1, es1, eb2, eg2, es2⟩ := pre_norms _ _ _ _ _ _ _ _ _ _ _ _ _ _ _ _ _ _ _ _ _ _ _ _ _ _ _ _ _ _ _ (hpre c).2.2.1
  obtain ⟨dl, pl, el⟩ := pre_biases _ _ _ _ _ _ _ _ _ _ _ _ _ _ _ _ _ _ _ _ _ _ _ _ _ _ _ _ _ _ _ (hpre c).2.2.2.2
  obtain ⟨a0, a1, a2, a3, a4, a5, a6, a7, a8, a9, a10, a11, a12, a13, a14, a15, a16, a17, a18, a19, a20, a21, a22, a23, a24, a25, a26, a27, a28, a29, a30⟩ := hag c
  rw [Ref.durTerm, a0, a1, a2, a3, a4, a5, a6, a7, a8, a9, a10]
  exact predicted_arr _ _ _ _ 0 _ G.rows _ _ G.dur1 G.dur2 _ G.durl _ _ _ _ _ _ _ db1 dg1 ds1 db2 dg2 ds2 dl

/-- The pitches of the reference are the kernel's. -/
theorem pitches_agree : Ref.pitTerm m' c = scoreArr (rowsOf m c) (firstOf m c) (secondOf m c) (headOf m c) 1 := by
  have G := given m c hpre
  obtain ⟨db1, dg1, ds1, db2, dg2, ds2, pb1, pg1, ps1, pb2, pg2, ps2, eb1, eg1, es1, eb2, eg2, es2⟩ := pre_norms _ _ _ _ _ _ _ _ _ _ _ _ _ _ _ _ _ _ _ _ _ _ _ _ _ _ _ _ _ _ _ (hpre c).2.2.1
  obtain ⟨dl, pl, el⟩ := pre_biases _ _ _ _ _ _ _ _ _ _ _ _ _ _ _ _ _ _ _ _ _ _ _ _ _ _ _ _ _ _ _ (hpre c).2.2.2.2
  obtain ⟨a0, a1, a2, a3, a4, a5, a6, a7, a8, a9, a10, a11, a12, a13, a14, a15, a16, a17, a18, a19, a20, a21, a22, a23, a24, a25, a26, a27, a28, a29, a30⟩ := hag c
  rw [Ref.pitTerm, a0, a11, a12, a13, a14, a15, a16, a17, a18, a19, a20]
  exact predicted_arr _ _ _ _ 1 _ G.rows _ _ G.pit1 G.pit2 _ G.pitl _ _ _ _ _ _ _ pb1 pg1 ps1 pb2 pg2 ps2 pl

/-- The energies of the reference are the kernel's. -/
theorem energies_agree : Ref.engTerm m' c = scoreArr (rowsOf m c) (firstOf m c) (secondOf m c) (headOf m c) 2 := by
  have G := given m c hpre
  obtain ⟨db1, dg1, ds1, db2, dg2, ds2, pb1, pg1, ps1, pb2, pg2, ps2, eb1, eg1, es1, eb2, eg2, es2⟩ := pre_norms _ _ _ _ _ _ _ _ _ _ _ _ _ _ _ _ _ _ _ _ _ _ _ _ _ _ _ _ _ _ _ (hpre c).2.2.1
  obtain ⟨dl, pl, el⟩ := pre_biases _ _ _ _ _ _ _ _ _ _ _ _ _ _ _ _ _ _ _ _ _ _ _ _ _ _ _ _ _ _ _ (hpre c).2.2.2.2
  obtain ⟨a0, a1, a2, a3, a4, a5, a6, a7, a8, a9, a10, a11, a12, a13, a14, a15, a16, a17, a18, a19, a20, a21, a22, a23, a24, a25, a26, a27, a28, a29, a30⟩ := hag c
  rw [Ref.engTerm, a0, a21, a22, a23, a24, a25, a26, a27, a28, a29, a30]
  exact predicted_arr _ _ _ _ 2 _ G.rows _ _ G.eng1 G.eng2 _ G.engl _ _ _ _ _ _ _ eb1 eg1 es1 eb2 eg2 es2 el

/-- The outputs of the reference are the kernel's. -/
theorem outputs_agree : Ref.outTerm (m' ((c.tc : Thread Cert.ReferenceIdeal.nD Cert.ReferenceIdeal.τ).loc Cert.ReferenceIdeal.main_arg0)) (Ref.pitTerm m' c) (Ref.engTerm m' c)
    = outputsArr (rowsOf m c) (firstOf m c) (secondOf m c) (headOf m c) := by
  rw [pitches_agree m m' hpre hag c, energies_agree m m' hpre hag c, (hag c).1]
  exact outputs_arr _ _ _ _ _ (given m c hpre).rows

end agreement

end Cert.Adaptor

end
-- ==== Proof.lean ====
/- The claims about the kernel and the reference, assembled: the frames, the identity of the two printings, and the
   equality of the four results. The value of the kernel's run and of the reference's run are in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_untrained_norms
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel Cert.Adaptor

/-- The compiled kernel runs to the end, changes no argument and leaves every counter at zero. -/
theorem frame_kernel : Cert.quiescent_Kernel := fun m ρ _ => Cert.Kernel.Gen.frame m ρ

/-- The same of its exact reading. -/
theorem frame_ideal : Cert.quiescent_KernelIdeal := fun m ρ _ => Cert.KernelIdeal.Gen.frame m ρ

/-- The same of its exact reading, from inputs that satisfy the precondition. -/
theorem frame_ideal_pre : Cert.quiescent_KernelIdeal_pre_untrained_norms := fun m ρ _ => Cert.KernelIdeal.Gen.frame m ρ

/-- The reference runs to the end and changes no argument; it declares no counter. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The same of the reference, from inputs that satisfy the precondition. -/
theorem frame_reference_pre : Cert.quiescent_ReferenceIdeal_pre_untrained_norms := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- From the same inputs, under the precondition, the kernel's exact reading and the reference both run to the end, return the
    same four arrays — the outputs, the durations, the pitches and the energies — and change no argument. -/
theorem algebraic : Cert.algebraic_KernelIdeal_ReferenceIdeal_pre_untrained_norms := by
  intro m g m' g' hpre hag
  refine ⟨fun c => outputsArr (rowsOf m c) (firstOf m c) (secondOf m c) (headOf m c),
    fun c => scoreArr (rowsOf m c) (firstOf m c) (secondOf m c) (headOf m c) 0,
    fun c => scoreArr (rowsOf m c) (firstOf m c) (secondOf m c) (headOf m c) 1,
    fun c => scoreArr (rowsOf m c) (firstOf m c) (secondOf m c) (headOf m c) 2, ?_, ?_⟩
  · refine (θ_run Cert.KernelIdeal.defs _ _).mono (fun r h c => ?_)
      (θ_run_and (results g (rowsOf m) (firstOf m) (secondOf m) (headOf m) (fun c => given m c hpre))
        (Cert.KernelIdeal.Gen.unchanged m g))
    exact ⟨(h.1 c).1, (h.1 c).2.1, (h.1 c).2.2.1, (h.1 c).2.2.2, h.2 c⟩
  · refine (θ_run Cert.ReferenceIdeal.defs _ _).mono (fun r h c => ?_)
      (θ_run_and (Ref.terms_run m' g') (Cert.ReferenceIdeal.Value.run (F := Ideal) m' g'))
    exact ⟨(h.1 c).1.trans (outputs_agree m m' hpre hag c), (h.1 c).2.1.trans (durations_agree m m' hpre hag c),
      (h.1 c).2.2.1.trans (pitches_agree m m' hpre hag c), (h.1 c).2.2.2.trans (energies_agree m m' hpre hag c),
      (h.2 c).2.2.2.2⟩

/-- Everything claimed. -/
theorem claim : Cert.Claim :=
  ⟨Cert.Kernel.Gen.facts, Cert.KernelIdeal.Gen.facts, Cert.ReferenceIdeal.Gen.facts, Cert.Pre_untrained_norms.Gen.facts,
    frame_kernel, frame_ideal, frame_ideal_pre, frame_reference, frame_reference_pre, trivial, algebraic⟩

end Cert.Proof

end
